-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![8, 1024, 16, 128]⟩ ⟨4, ![8, 4096, 16, 128]⟩ (Layout.meshBlock [2, 4, 4] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![8, 1024, 16, 128]⟩ ⟨4, ![8, 4096, 16, 128]⟩ (Layout.meshBlock [2, 4, 4] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S8x8x16x128 : Shape := ⟨4, ![8, 8, 16, 128]⟩
abbrev S8x1024x16x128 : Shape := ⟨4, ![8, 1024, 16, 128]⟩
abbrev S_ : Shape := ⟨0, ![]⟩

class Facts : Prop where
  bcast_S_S8x8x16x128 : S_.BroadcastsInDim S8x8x16x128 (![] : Fin 0 → Fin S8x8x16x128.rank)
  bcast_S_S8x1024x16x128 : S_.BroadcastsInDim S8x1024x16x128 (![] : Fin 0 → Fin S8x1024x16x128.rank)

variable [Facts]

def fn {F : FTy → Type} [FloatOps F] (main_arg0 : FVec F S8x8x16x128 .f32) (main_arg1 : FVec F S8x1024x16x128 .f32) (main_arg2 : FVec F S8x1024x16x128 .f32) : IVec S8x8x16x128 1 × IVec S8x1024x16x128 1 :=
  let main_v0 : FVec F S8x8x16x128 .f32 := Host.absf main_arg0
  let main_cst : FVec F S_ .f32 := constant S_ .f32 0x7F800000#32
  let main_v1 : FVec F S8x8x16x128 .f32 := broadcastInDim S8x8x16x128 ![] bcast_S_S8x8x16x128 main_cst
  let main_v2 : IVec S8x8x16x128 1 := cmpf .olt main_v0 main_v1
  let main_v3 : FVec F S8x1024x16x128 .f32 := Host.absf main_arg1
  let main_cst_0 : FVec F S_ .f32 := constant S_ .f32 0x7F800000#32
  let main_v4 : FVec F S8x1024x16x128 .f32 := broadcastInDim S8x1024x16x128 ![] bcast_S_S8x1024x16x128 main_cst_0
  let main_v5 : IVec S8x1024x16x128 1 := cmpf .olt main_v3 main_v4
  (main_v2, main_v5)
-- ==== Pre_finite_scores_ReferenceIdeal.lean ====
abbrev S8x8x16x128 : Shape := ⟨4, ![8, 8, 16, 128]⟩
abbrev S8x4096x16x128 : Shape := ⟨4, ![8, 4096, 16, 128]⟩
abbrev S_ : Shape := ⟨0, ![]⟩

class Facts : Prop where
  bcast_S_S8x8x16x128 : S_.BroadcastsInDim S8x8x16x128 (![] : Fin 0 → Fin S8x8x16x128.rank)
  bcast_S_S8x4096x16x128 : S_.BroadcastsInDim S8x4096x16x128 (![] : Fin 0 → Fin S8x4096x16x128.rank)

variable [Facts]

def fn {F : FTy → Type} [FloatOps F] (main_arg0 : FVec F S8x8x16x128 .f32) (main_arg1 : FVec F S8x4096x16x128 .f32) (main_arg2 : FVec F S8x4096x16x128 .f32) : IVec S8x8x16x128 1 × IVec S8x4096x16x128 1 :=
  let main_v0 : FVec F S8x8x16x128 .f32 := Host.absf main_arg0
  let main_cst : FVec F S_ .f32 := constant S_ .f32 0x7F800000#32
  let main_v1 : FVec F S8x8x16x128 .f32 := broadcastInDim S8x8x16x128 ![] bcast_S_S8x8x16x128 main_cst
  let main_v2 : IVec S8x8x16x128 1 := cmpf .olt main_v0 main_v1
  let main_v3 : FVec F S8x4096x16x128 .f32 := Host.absf main_arg1
  let main_cst_0 : FVec F S_ .f32 := constant S_ .f32 0x7F800000#32
  let main_v4 : FVec F S8x4096x16x128 .f32 := broadcastInDim S8x4096x16x128 ![] bcast_S_S8x4096x16x128 main_cst_0
  let main_v5 : IVec S8x4096x16x128 1 := cmpf .olt main_v3 main_v4
  (main_v2, main_v5)
-- ==== Kernel.lean ====
abbrev S8x8x16x128 : Shape := ⟨4, ![8, 8, 16, 128]⟩
abbrev S8x1024x16x128 : Shape := ⟨4, ![8, 1024, 16, 128]⟩
abbrev S1x8x16x128 : Shape := ⟨4, ![1, 8, 16, 128]⟩
abbrev S1x512x16x128 : Shape := ⟨4, ![1, 512, 16, 128]⟩
abbrev S8x8x17x128 : Shape := ⟨4, ![8, 8, 17, 128]⟩
abbrev S2x8x8x17x128 : Shape := ⟨5, ![2, 8, 8, 17, 128]⟩
abbrev S2 : Shape := ⟨1, ![2]⟩
abbrev S1x8x1x128 : Shape := ⟨4, ![1, 8, 1, 128]⟩
abbrev S8x128 : Shape := ⟨2, ![8, 128]⟩
abbrev S1x512x1x128 : Shape := ⟨4, ![1, 512, 1, 128]⟩
abbrev S512x128 : Shape := ⟨2, ![512, 128]⟩
abbrev S8x512 : Shape := ⟨2, ![8, 512]⟩
abbrev S8 : Shape := ⟨1, ![8]⟩
abbrev S8x1 : Shape := ⟨2, ![8, 1]⟩
abbrev S1x8x1x1 : Shape := ⟨4, ![1, 8, 1, 1]⟩
abbrev S_ : Shape := ⟨0, ![]⟩
abbrev S1 : Shape := ⟨1, ![1]⟩
abbrev S1x8x8x17x128 : Shape := ⟨5, ![1, 8, 8, 17, 128]⟩
abbrev S8x8x1x128 : Shape := ⟨4, ![8, 8, 1, 128]⟩
abbrev S8x8x128 : Shape := ⟨3, ![8, 8, 128]⟩
abbrev S8x8x1x1 : Shape := ⟨4, ![8, 8, 1, 1]⟩
abbrev S8x8x1 : Shape := ⟨3, ![8, 8, 1]⟩

abbrev nBuf : Space → Nat
  | .hbm => 4
  | .vmem => 9
  | .smem => 0
  | _ => 0

abbrev bufTy : (tb : Table) → Fin (tcTables nBuf tb) → BufTy
  | .hbm, ⟨0, _⟩ => ⟨S8x8x16x128, .f32⟩
  | .hbm, ⟨1, _⟩ => ⟨S8x1024x16x128, .f32⟩
  | .hbm, ⟨2, _⟩ => ⟨S8x1024x16x128, .f32⟩
  | .hbm, ⟨3, _⟩ => ⟨S8x8x16x128, .f32⟩
  | .local _ .vmem, ⟨0, _⟩ => ⟨S1x8x16x128, .f32⟩
  | .local _ .vmem, ⟨1, _⟩ => ⟨S1x8x16x128, .f32⟩
  | .local _ .vmem, ⟨2, _⟩ => ⟨S1x512x16x128, .f32⟩
  | .local _ .vmem, ⟨3, _⟩ => ⟨S1x512x16x128, .f32⟩
  | .local _ .vmem, ⟨4, _⟩ => ⟨S1x512x16x128, .f32⟩
  | .local _ .vmem, ⟨5, _⟩ => ⟨S1x512x16x128, .f32⟩
  | .local _ .vmem, ⟨6, _⟩ => ⟨S8x8x16x128, .f32⟩
  | .local _ .vmem, ⟨7, _⟩ => ⟨S8x8x17x128, .f32⟩
  | .local _ .vmem, ⟨8, _⟩ => ⟨S2x8x8x17x128, .f32⟩
  | _, _ => ⟨S8x8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev barrier0 : Sem sig := 0

abbrev nD : Nat := 32
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v13 : BitVec 1 := Scalar.cmpi .eq arg1 c0_i32
  let v14 : BitVec 32 := Scalar.extui v13
  let c0_i32_14 : BitVec 32 := 0#32
  let v15 : BitVec 1 := Scalar.cmpi .ne v14 c0_i32_14
  v15

def k0_off1 (i : grid0.Coords) : Fin 4 → Nat :=
  let arg0 : BitVec 32 := BitVec.ofNat 32 (i 0).val
  let v309 : Index := Scalar.indexCast arg0
  let c0_303 : Index := 0#32
  let c0_304 : Index := 0#32
  let c0_305 : Index := 0#32
  ![v309.toNat, 0, 0, 0]
def k0_off2 (i : grid0.Coords) : Fin 4 → Nat :=
  let arg0 : BitVec 32 := BitVec.ofNat 32 (i 0).val
  let v313 : Index := Scalar.indexCast arg0
  let c0_306 : Index := 0#32
  let c16 : Index := 16#32
  let c0_307 : Index := 0#32
  ![v313.toNat, 0, 16, 0]
def k0_cond2 (i : grid0.Coords) : BitVec 1 :=
  let arg1 : BitVec 32 := BitVec.ofNat 32 (i 1).val
  let c0_i32_15 : BitVec 32 := 0#32
  let v16 : BitVec 1 := Scalar.cmpi .ne arg1 c0_i32_15
  let v17 : BitVec 32 := Scalar.extui v16
  let c0_i32_16 : BitVec 32 := 0#32
  let v18 : BitVec 1 := Scalar.cmpi .ne v17 c0_i32_16
  v18

def k0_off3 (i : grid0.Coords) : Fin 4 → Nat :=
  let arg0 : BitVec 32 := BitVec.ofNat 32 (i 0).val
  let v309 : Index := Scalar.indexCast arg0
  let c0_303 : Index := 0#32
  let c0_304 : Index := 0#32
  let c0_305 : Index := 0#32
  ![v309.toNat, 0, 0, 0]
def k0_off4 (i : grid0.Coords) : Fin 4 → Nat :=
  let arg0 : BitVec 32 := BitVec.ofNat 32 (i 0).val
  let v317 : Index := Scalar.indexCast arg0
  let c0_309 : Index := 0#32
  let c16 : Index := 16#32
  let c0_310 : Index := 0#32
  ![v317.toNat, 0, 16, 0]
def k0_cond3 (i : grid0.Coords) : BitVec 1 :=
  let arg1 : BitVec 32 := BitVec.ofNat 32 (i 1).val
  let c0_i32_32 : BitVec 32 := 0#32
  let v32 : BitVec 1 := Scalar.cmpi .eq arg1 c0_i32_32
  let v33 : BitVec 32 := Scalar.extui v32
  let c0_i32_33 : BitVec 32 := 0#32
  let v34 : BitVec 1 := Scalar.cmpi .ne v33 c0_i32_33
  v34

def k0_off5 (i : grid0.Coords) : Fin 4 → Nat :=
  let arg0 : BitVec 32 := BitVec.ofNat 32 (i 0).val
  let v309 : Index := Scalar.indexCast arg0
  let c0_303 : Index := 0#32
  let c1_304 : Index := 1#32
  let c0_305 : Index := 0#32
  ![v309.toNat, 0, 1, 0]
def k0_off6 (i : grid0.Coords) : Fin 4 → Nat :=
  let arg0 : BitVec 32 := BitVec.ofNat 32 (i 0).val
  let v313 : Index := Scalar.indexCast arg0
  let c0_306 : Index := 0#32
  let c16 : Index := 16#32
  let c1_307 : Index := 1#32
  ![v313.toNat, 0, 16, 1]
def k0_cond4 (i : grid0.Coords) : BitVec 1 :=
  let arg1 : BitVec 32 := BitVec.ofNat 32 (i 1).val
  let c0_i32_34 : BitVec 32 := 0#32
  let v35 : BitVec 1 := Scalar.cmpi .ne arg1 c0_i32_34
  let v36 : BitVec 32 := Scalar.extui v35
  let c0_i32_35 : BitVec 32 := 0#32
  let v37 : BitVec 1 := Scalar.cmpi .ne v36 c0_i32_35
  v37

def k0_off7 (i : grid0.Coords) : Fin 4 → Nat :=
  let arg0 : BitVec 32 := BitVec.ofNat 32 (i 0).val
  let v309 : Index := Scalar.indexCast arg0
  let c0_303 : Index := 0#32
  let c1_304 : Index := 1#32
  let c0_305 : Index := 0#32
  ![v309.toNat, 0, 1, 0]
def k0_off8 (i : grid0.Coords) : Fin 4 → Nat :=
  let arg0 : BitVec 32 := BitVec.ofNat 32 (i 0).val
  let v317 : Index := Scalar.indexCast arg0
  let c0_309 : Index := 0#32
  let c16 : Index := 16#32
  let c1_310 : Index := 1#32
  ![v317.toNat, 0, 16, 1]
def k0_cond5 (i : grid0.Coords) : BitVec 1 :=
  let arg1 : BitVec 32 := BitVec.ofNat 32 (i 1).val
  let c0_i32_51 : BitVec 32 := 0#32
  let v51 : BitVec 1 := Scalar.cmpi .eq arg1 c0_i32_51
  let v52 : BitVec 32 := Scalar.extui v51
  let c0_i32_52 : BitVec 32 := 0#32
  let v53 : BitVec 1 := Scalar.cmpi .ne v52 c0_i32_52
  v53

def k0_off9 (i : grid0.Coords) : Fin 4 → Nat :=
  let arg0 : BitVec 32 := BitVec.ofNat 32 (i 0).val
  let v309 : Index := Scalar.indexCast arg0
  let c0_303 : Index := 0#32
  let c2_304 : Index := 2#32
  let c0_305 : Index := 0#32
  ![v309.toNat, 0, 2, 0]
def k0_off10 (i : grid0.Coords) : Fin 4 → Nat :=
  let arg0 : BitVec 32 := BitVec.ofNat 32 (i 0).val
  let v313 : Index := Scalar.indexCast arg0
  let c0_306 : Index := 0#32
  let c16 : Index := 16#32
  let c2_307 : Index := 2#32
  ![v313.toNat, 0, 16, 2]
def k0_cond6 (i : grid0.Coords) : BitVec 1 :=
  let arg1 : BitVec 32 := BitVec.ofNat 32 (i 1).val
  let c0_i32_53 : BitVec 32 := 0#32
  let v54 : BitVec 1 := Scalar.cmpi .ne arg1 c0_i32_53
  let v55 : BitVec 32 := Scalar.extui v54
  let c0_i32_54 : BitVec 32 := 0#32
  let v56 : BitVec 1 := Scalar.cmpi .ne v55 c0_i32_54
  v56

def k0_off11 (i : grid0.Coords) : Fin 4 → Nat :=
  let arg0 : BitVec 32 := BitVec.ofNat 32 (i 0).val
  let v309 : Index := Scalar.indexCast arg0
  let c0_303 : Index := 0#32
  let c2_304 : Index := 2#32
  let c0_305 : Index := 0#32
  ![v309.toNat, 0, 2, 0]
def k0_off12 (i : grid0.Coords) : Fin 4 → Nat :=
  let arg0 : BitVec 32 := BitVec.ofNat 32 (i 0).val
  let v317 : Index := Scalar.indexCast arg0
  let c0_309 : Index := 0#32
  let c16 : Index := 16#32
  let c2_310 : Index := 2#32
  ![v317.toNat, 0, 16, 2]
def k0_cond7 (i : grid0.Coords) : BitVec 1 :=
  let arg1 : BitVec 32 := BitVec.ofNat 32 (i 1).val
  let c0_i32_70 : BitVec 32 := 0#32
  let v70 : BitVec 1 := Scalar.cmpi .eq arg1 c0_i32_70
  let v71 : BitVec 32 := Scalar.extui v70
  let c0_i32_71 : BitVec 32 := 0#32
  let v72 : BitVec 1 := Scalar.cmpi .ne v71 c0_i32_71
  v72

def k0_off13 (i : grid0.Coords) : Fin 4 → Nat :=
  let arg0 : BitVec 32 := BitVec.ofNat 32 (i 0).val
  let v309 : Index := Scalar.indexCast arg0
  let c0_303 : Index := 0#32
  let c3_304 : Index := 3#32
  let c0_305 : Index := 0#32
  ![v309.toNat, 0, 3, 0]
def k0_off14 (i : grid0.Coords) : Fin 4 → Nat :=
  let arg0 : BitVec 32 := BitVec.ofNat 32 (i 0).val
  let v313 : Index := Scalar.indexCast arg0
  let c0_306 : Index := 0#32
  let c16 : Index := 16#32
  let c3_307 : Index := 3#32
  ![v313.toNat, 0, 16, 3]
def k0_cond8 (i : grid0.Coords) : BitVec 1 :=
  let arg1 : BitVec 32 := BitVec.ofNat 32 (i 1).val
  let c0_i32_72 : BitVec 32 := 0#32
  let v73 : BitVec 1 := Scalar.cmpi .ne arg1 c0_i32_72
  let v74 : BitVec 32 := Scalar.extui v73
  let c0_i32_73 : BitVec 32 := 0#32
  let v75 : BitVec 1 := Scalar.cmpi .ne v74 c0_i32_73
  v75

def k0_off15 (i : grid0.Coords) : Fin 4 → Nat :=
  let arg0 : BitVec 32 := BitVec.ofNat 32 (i 0).val
  let v309 : Index := Scalar.indexCast arg0
  let c0_303 : Index := 0#32
  let c3_304 : Index := 3#32
  let c0_305 : Index := 0#32
  ![v309.toNat, 0, 3, 0]
def k0_off16 (i : grid0.Coords) : Fin 4 → Nat :=
  let arg0 : BitVec 32 := BitVec.ofNat 32 (i 0).val
  let v317 : Index := Scalar.indexCast arg0
  let c0_309 : Index := 0#32
  let c16 : Index := 16#32
  let c3_310 : Index := 3#32
  ![v317.toNat, 0, 16, 3]
def k0_cond9 (i : grid0.Coords) : BitVec 1 :=
  let arg1 : BitVec 32 := BitVec.ofNat 32 (i 1).val
  let c0_i32_89 : BitVec 32 := 0#32
  let v89 : BitVec 1 := Scalar.cmpi .eq arg1 c0_i32_89
  let v90 : BitVec 32 := Scalar.extui v89
  let c0_i32_90 : BitVec 32 := 0#32
  let v91 : BitVec 1 := Scalar.cmpi .ne v90 c0_i32_90
  v91

def k0_off17 (i : grid0.Coords) : Fin 4 → Nat :=
  let arg0 : BitVec 32 := BitVec.ofNat 32 (i 0).val
  let v309 : Index := Scalar.indexCast arg0
  let c0_303 : Index := 0#32
  let c4_304 : Index := 4#32
  let c0_305 : Index := 0#32
  ![v309.toNat, 0, 4, 0]
def k0_off18 (i : grid0.Coords) : Fin 4 → Nat :=
  let arg0 : BitVec 32 := BitVec.ofNat 32 (i 0).val
  let v313 : Index := Scalar.indexCast arg0
  let c0_306 : Index := 0#32
  let c16 : Index := 16#32
  let c4_307 : Index := 4#32
  ![v313.toNat, 0, 16, 4]
def k0_cond10 (i : grid0.Coords) : BitVec 1 :=
  let arg1 : BitVec 32 := BitVec.ofNat 32 (i 1).val
  let c0_i32_91 : BitVec 32 := 0#32
  let v92 : BitVec 1 := Scalar.cmpi .ne arg1 c0_i32_91
  let v93 : BitVec 32 := Scalar.extui v92
  let c0_i32_92 : BitVec 32 := 0#32
  let v94 : BitVec 1 := Scalar.cmpi .ne v93 c0_i32_92
  v94

def k0_off19 (i : grid0.Coords) : Fin 4 → Nat :=
  let arg0 : BitVec 32 := BitVec.ofNat 32 (i 0).val
  let v309 : Index := Scalar.indexCast arg0
  let c0_303 : Index := 0#32
  let c4_304 : Index := 4#32
  let c0_305 : Index := 0#32
  ![v309.toNat, 0, 4, 0]
def k0_off20 (i : grid0.Coords) : Fin 4 → Nat :=
  let arg0 : BitVec 32 := BitVec.ofNat 32 (i 0).val
  let v317 : Index := Scalar.indexCast arg0
  let c0_309 : Index := 0#32
  let c16 : Index := 16#32
  let c4_310 : Index := 4#32
  ![v317.toNat, 0, 16, 4]
def k0_cond11 (i : grid0.Coords) : BitVec 1 :=
  let arg1 : BitVec 32 := BitVec.ofNat 32 (i 1).val
  let c0_i32_108 : BitVec 32 := 0#32
  let v108 : BitVec 1 := Scalar.cmpi .eq arg1 c0_i32_108
  let v109 : BitVec 32 := Scalar.extui v108
  let c0_i32_109 : BitVec 32 := 0#32
  let v110 : BitVec 1 := Scalar.cmpi .ne v109 c0_i32_109
  v110

def k0_off21 (i : grid0.Coords) : Fin 4 → Nat :=
  let arg0 : BitVec 32 := BitVec.ofNat 32 (i 0).val
  let v309 : Index := Scalar.indexCast arg0
  let c0_303 : Index := 0#32
  let c5_304 : Index := 5#32
  let c0_305 : Index := 0#32
  ![v309.toNat, 0, 5, 0]
def k0_off22 (i : grid0.Coords) : Fin 4 → Nat :=
  let arg0 : BitVec 32 := BitVec.ofNat 32 (i 0).val
  let v313 : Index := Scalar.indexCast arg0
  let c0_306 : Index := 0#32
  let c16 : Index := 16#32
  let c5_307 : Index := 5#32
  ![v313.toNat, 0, 16, 5]
def k0_cond12 (i : grid0.Coords) : BitVec 1 :=
  let arg1 : BitVec 32 := BitVec.ofNat 32 (i 1).val
  let c0_i32_110 : BitVec 32 := 0#32
  let v111 : BitVec 1 := Scalar.cmpi .ne arg1 c0_i32_110
  let v112 : BitVec 32 := Scalar.extui v111
  let c0_i32_111 : BitVec 32 := 0#32
  let v113 : BitVec 1 := Scalar.cmpi .ne v112 c0_i32_111
  v113

def k0_off23 (i : grid0.Coords) : Fin 4 → Nat :=
  let arg0 : BitVec 32 := BitVec.ofNat 32 (i 0).val
  let v309 : Index := Scalar.indexCast arg0
  let c0_303 : Index := 0#32
  let c5_304 : Index := 5#32
  let c0_305 : Index := 0#32
  ![v309.toNat, 0, 5, 0]
def k0_off24 (i : grid0.Coords) : Fin 4 → Nat :=
  let arg0 : BitVec 32 := BitVec.ofNat 32 (i 0).val
  let v317 : Index := Scalar.indexCast arg0
  let c0_309 : Index := 0#32
  let c16 : Index := 16#32
  let c5_310 : Index := 5#32
  ![v317.toNat, 0, 16, 5]
def k0_cond13 (i : grid0.Coords) : BitVec 1 :=
  let arg1 : BitVec 32 := BitVec.ofNat 32 (i 1).val
  let c0_i32_127 : BitVec 32 := 0#32
  let v127 : BitVec 1 := Scalar.cmpi .eq arg1 c0_i32_127
  let v128 : BitVec 32 := Scalar.extui v127
  let c0_i32_128 : BitVec 32 := 0#32
  let v129 : BitVec 1 := Scalar.cmpi .ne v128 c0_i32_128
  v129

def k0_off25 (i : grid0.Coords) : Fin 4 → Nat :=
  let arg0 : BitVec 32 := BitVec.ofNat 32 (i 0).val
  let v309 : Index := Scalar.indexCast arg0
  let c0_303 : Index := 0#32
  let c6_304 : Index := 6#32
  let c0_305 : Index := 0#32
  ![v309.toNat, 0, 6, 0]
def k0_off26 (i : grid0.Coords) : Fin 4 → Nat :=
  let arg0 : BitVec 32 := BitVec.ofNat 32 (i 0).val
  let v313 : Index := Scalar.indexCast arg0
  let c0_306 : Index := 0#32
  let c16 : Index := 16#32
  let c6_307 : Index := 6#32
  ![v313.toNat, 0, 16, 6]
def k0_cond14 (i : grid0.Coords) : BitVec 1 :=
  let arg1 : BitVec 32 := BitVec.ofNat 32 (i 1).val
  let c0_i32_129 : BitVec 32 := 0#32
  let v130 : BitVec 1 := Scalar.cmpi .ne arg1 c0_i32_129
  let v131 : BitVec 32 := Scalar.extui v130
  let c0_i32_130 : BitVec 32 := 0#32
  let v132 : BitVec 1 := Scalar.cmpi .ne v131 c0_i32_130
  v132

def k0_off27 (i : grid0.Coords) : Fin 4 → Nat :=
  let arg0 : BitVec 32 := BitVec.ofNat 32 (i 0).val
  let v309 : Index := Scalar.indexCast arg0
  let c0_303 : Index := 0#32
  let c6_304 : Index := 6#32
  let c0_305 : Index := 0#32
  ![v309.toNat, 0, 6, 0]
def k0_off28 (i : grid0.Coords) : Fin 4 → Nat :=
  let arg0 : BitVec 32 := BitVec.ofNat 32 (i 0).val
  let v317 : Index := Scalar.indexCast arg0
  let c0_309 : Index := 0#32
  let c16 : Index := 16#32
  let c6_310 : Index := 6#32
  ![v317.toNat, 0, 16, 6]
def k0_cond15 (i : grid0.Coords) : BitVec 1 :=
  let arg1 : BitVec 32 := BitVec.ofNat 32 (i 1).val
  let c0_i32_146 : BitVec 32 := 0#32
  let v146 : BitVec 1 := Scalar.cmpi .eq arg1 c0_i32_146
  let v147 : BitVec 32 := Scalar.extui v146
  let c0_i32_147 : BitVec 32 := 0#32
  let v148 : BitVec 1 := Scalar.cmpi .ne v147 c0_i32_147
  v148

def k0_off29 (i : grid0.Coords) : Fin 4 → Nat :=
  let arg0 : BitVec 32 := BitVec.ofNat 32 (i 0).val
  let v309 : Index := Scalar.indexCast arg0
  let c0_303 : Index := 0#32
  let c7_304 : Index := 7#32
  let c0_305 : Index := 0#32
  ![v309.toNat, 0, 7, 0]
def k0_off30 (i : grid0.Coords) : Fin 4 → Nat :=
  let arg0 : BitVec 32 := BitVec.ofNat 32 (i 0).val
  let v313 : Index := Scalar.indexCast arg0
  let c0_306 : Index := 0#32
  let c16 : Index := 16#32
  let c7_307 : Index := 7#32
  ![v313.toNat, 0, 16, 7]
def k0_cond16 (i : grid0.Coords) : BitVec 1 :=
  let arg1 : BitVec 32 := BitVec.ofNat 32 (i 1).val
  let c0_i32_148 : BitVec 32 := 0#32
  let v149 : BitVec 1 := Scalar.cmpi .ne arg1 c0_i32_148
  let v150 : BitVec 32 := Scalar.extui v149
  let c0_i32_149 : BitVec 32 := 0#32
  let v151 : BitVec 1 := Scalar.cmpi .ne v150 c0_i32_149
  v151

def k0_off31 (i : grid0.Coords) : Fin 4 → Nat :=
  let arg0 : BitVec 32 := BitVec.ofNat 32 (i 0).val
  let v309 : Index := Scalar.indexCast arg0
  let c0_303 : Index := 0#32
  let c7_304 : Index := 7#32
  let c0_305 : Index := 0#32
  ![v309.toNat, 0, 7, 0]
def k0_off32 (i : grid0.Coords) : Fin 4 → Nat :=
  let arg0 : BitVec 32 := BitVec.ofNat 32 (i 0).val
  let v317 : Index := Scalar.indexCast arg0
  let c0_309 : Index := 0#32
  let c16 : Index := 16#32
  let c7_310 : Index := 7#32
  ![v317.toNat, 0, 16, 7]
def k0_cond17 (i : grid0.Coords) : BitVec 1 :=
  let arg1 : BitVec 32 := BitVec.ofNat 32 (i 1).val
  let c0_i32_165 : BitVec 32 := 0#32
  let v165 : BitVec 1 := Scalar.cmpi .eq arg1 c0_i32_165
  let v166 : BitVec 32 := Scalar.extui v165
  let c0_i32_166 : BitVec 32 := 0#32
  let v167 : BitVec 1 := Scalar.cmpi .ne v166 c0_i32_166
  v167

def k0_off33 (i : grid0.Coords) : Fin 4 → Nat :=
  let arg0 : BitVec 32 := BitVec.ofNat 32 (i 0).val
  let v309 : Index := Scalar.indexCast arg0
  let c0_303 : Index := 0#32
  let c8_304 : Index := 8#32
  let c0_305 : Index := 0#32
  ![v309.toNat, 0, 8, 0]
def k0_off34 (i : grid0.Coords) : Fin 4 → Nat :=
  let arg0 : BitVec 32 := BitVec.ofNat 32 (i 0).val
  let v313 : Index := Scalar.indexCast arg0
  let c0_306 : Index := 0#32
  let c16 : Index := 16#32
  let c8_307 : Index := 8#32
  ![v313.toNat, 0, 16, 8]
def k0_cond18 (i : grid0.Coords) : BitVec 1 :=
  let arg1 : BitVec 32 := BitVec.ofNat 32 (i 1).val
  let c0_i32_167 : BitVec 32 := 0#32
  let v168 : BitVec 1 := Scalar.cmpi .ne arg1 c0_i32_167
  let v169 : BitVec 32 := Scalar.extui v168
  let c0_i32_168 : BitVec 32 := 0#32
  let v170 : BitVec 1 := Scalar.cmpi .ne v169 c0_i32_168
  v170

def k0_off35 (i : grid0.Coords) : Fin 4 → Nat :=
  let arg0 : BitVec 32 := BitVec.ofNat 32 (i 0).val
  let v309 : Index := Scalar.indexCast arg0
  let c0_303 : Index := 0#32
  let c8_304 : Index := 8#32
  let c0_305 : Index := 0#32
  ![v309.toNat, 0, 8, 0]
def k0_off36 (i : grid0.Coords) : Fin 4 → Nat :=
  let arg0 : BitVec 32 := BitVec.ofNat 32 (i 0).val
  let v317 : Index := Scalar.indexCast arg0
  let c0_309 : Index := 0#32
  let c16 : Index := 16#32
  let c8_310 : Index := 8#32
  ![v317.toNat, 0, 16, 8]
def k0_cond19 (i : grid0.Coords) : BitVec 1 :=
  let arg1 : BitVec 32 := BitVec.ofNat 32 (i 1).val
  let c0_i32_184 : BitVec 32 := 0#32
  let v184 : BitVec 1 := Scalar.cmpi .eq arg1 c0_i32_184
  let v185 : BitVec 32 := Scalar.extui v184
  let c0_i32_185 : BitVec 32 := 0#32
  let v186 : BitVec 1 := Scalar.cmpi .ne v185 c0_i32_185
  v186

def k0_off37 (i : grid0.Coords) : Fin 4 → Nat :=
  let arg0 : BitVec 32 := BitVec.ofNat 32 (i 0).val
  let v309 : Index := Scalar.indexCast arg0
  let c0_303 : Index := 0#32
  let c9_304 : Index := 9#32
  let c0_305 : Index := 0#32
  ![v309.toNat, 0, 9, 0]
def k0_off38 (i : grid0.Coords) : Fin 4 → Nat :=
  let arg0 : BitVec 32 := BitVec.ofNat 32 (i 0).val
  let v313 : Index := Scalar.indexCast arg0
  let c0_306 : Index := 0#32
  let c16 : Index := 16#32
  let c9_307 : Index := 9#32
  ![v313.toNat, 0, 16, 9]
def k0_cond20 (i : grid0.Coords) : BitVec 1 :=
  let arg1 : BitVec 32 := BitVec.ofNat 32 (i 1).val
  let c0_i32_186 : BitVec 32 := 0#32
  let v187 : BitVec 1 := Scalar.cmpi .ne arg1 c0_i32_186
  let v188 : BitVec 32 := Scalar.extui v187
  let c0_i32_187 : BitVec 32 := 0#32
  let v189 : BitVec 1 := Scalar.cmpi .ne v188 c0_i32_187
  v189

def k0_off39 (i : grid0.Coords) : Fin 4 → Nat :=
  let arg0 : BitVec 32 := BitVec.ofNat 32 (i 0).val
  let v309 : Index := Scalar.indexCast arg0
  let c0_303 : Index := 0#32
  let c9_304 : Index := 9#32
  let c0_305 : Index := 0#32
  ![v309.toNat, 0, 9, 0]
def k0_off40 (i : grid0.Coords) : Fin 4 → Nat :=
  let arg0 : BitVec 32 := BitVec.ofNat 32 (i 0).val
  let v317 : Index := Scalar.indexCast arg0
  let c0_309 : Index := 0#32
  let c16 : Index := 16#32
  let c9_310 : Index := 9#32
  ![v317.toNat, 0, 16, 9]
def k0_cond21 (i : grid0.Coords) : BitVec 1 :=
  let arg1 : BitVec 32 := BitVec.ofNat 32 (i 1).val
  let c0_i32_203 : BitVec 32 := 0#32
  let v203 : BitVec 1 := Scalar.cmpi .eq arg1 c0_i32_203
  let v204 : BitVec 32 := Scalar.extui v203
  let c0_i32_204 : BitVec 32 := 0#32
  let v205 : BitVec 1 := Scalar.cmpi .ne v204 c0_i32_204
  v205

def k0_off41 (i : grid0.Coords) : Fin 4 → Nat :=
  let arg0 : BitVec 32 := BitVec.ofNat 32 (i 0).val
  let v309 : Index := Scalar.indexCast arg0
  let c0_303 : Index := 0#32
  let c10_304 : Index := 10#32
  let c0_305 : Index := 0#32
  ![v309.toNat, 0, 10, 0]
def k0_off42 (i : grid0.Coords) : Fin 4 → Nat :=
  let arg0 : BitVec 32 := BitVec.ofNat 32 (i 0).val
  let v313 : Index := Scalar.indexCast arg0
  let c0_306 : Index := 0#32
  let c16 : Index := 16#32
  let c10_307 : Index := 10#32
  ![v313.toNat, 0, 16, 10]
def k0_cond22 (i : grid0.Coords) : BitVec 1 :=
  let arg1 : BitVec 32 := BitVec.ofNat 32 (i 1).val
  let c0_i32_205 : BitVec 32 := 0#32
  let v206 : BitVec 1 := Scalar.cmpi .ne arg1 c0_i32_205
  let v207 : BitVec 32 := Scalar.extui v206
  let c0_i32_206 : BitVec 32 := 0#32
  let v208 : BitVec 1 := Scalar.cmpi .ne v207 c0_i32_206
  v208

def k0_off43 (i : grid0.Coords) : Fin 4 → Nat :=
  let arg0 : BitVec 32 := BitVec.ofNat 32 (i 0).val
  let v309 : Index := Scalar.indexCast arg0
  let c0_303 : Index := 0#32
  let c10_304 : Index := 10#32
  let c0_305 : Index := 0#32
  ![v309.toNat, 0, 10, 0]
def k0_off44 (i : grid0.Coords) : Fin 4 → Nat :=
  let arg0 : BitVec 32 := BitVec.ofNat 32 (i 0).val
  let v317 : Index := Scalar.indexCast arg0
  let c0_309 : Index := 0#32
  let c16 : Index := 16#32
  let c10_310 : Index := 10#32
  ![v317.toNat, 0, 16, 10]
def k0_cond23 (i : grid0.Coords) : BitVec 1 :=
  let arg1 : BitVec 32 := BitVec.ofNat 32 (i 1).val
  let c0_i32_222 : BitVec 32 := 0#32
  let v222 : BitVec 1 := Scalar.cmpi .eq arg1 c0_i32_222
  let v223 : BitVec 32 := Scalar.extui v222
  let c0_i32_223 : BitVec 32 := 0#32
  let v224 : BitVec 1 := Scalar.cmpi .ne v223 c0_i32_223
  v224

def k0_off45 (i : grid0.Coords) : Fin 4 → Nat :=
  let arg0 : BitVec 32 := BitVec.ofNat 32 (i 0).val
  let v309 : Index := Scalar.indexCast arg0
  let c0_303 : Index := 0#32
  let c11_304 : Index := 11#32
  let c0_305 : Index := 0#32
  ![v309.toNat, 0, 11, 0]
def k0_off46 (i : grid0.Coords) : Fin 4 → Nat :=
  let arg0 : BitVec 32 := BitVec.ofNat 32 (i 0).val
  let v313 : Index := Scalar.indexCast arg0
  let c0_306 : Index := 0#32
  let c16 : Index := 16#32
  let c11_307 : Index := 11#32
  ![v313.toNat, 0, 16, 11]
def k0_cond24 (i : grid0.Coords) : BitVec 1 :=
  let arg1 : BitVec 32 := BitVec.ofNat 32 (i 1).val
  let c0_i32_224 : BitVec 32 := 0#32
  let v225 : BitVec 1 := Scalar.cmpi .ne arg1 c0_i32_224
  let v226 : BitVec 32 := Scalar.extui v225
  let c0_i32_225 : BitVec 32 := 0#32
  let v227 : BitVec 1 := Scalar.cmpi .ne v226 c0_i32_225
  v227

def k0_off47 (i : grid0.Coords) : Fin 4 → Nat :=
  let arg0 : BitVec 32 := BitVec.ofNat 32 (i 0).val
  let v309 : Index := Scalar.indexCast arg0
  let c0_303 : Index := 0#32
  let c11_304 : Index := 11#32
  let c0_305 : Index := 0#32
  ![v309.toNat, 0, 11, 0]
def k0_off48 (i : grid0.Coords) : Fin 4 → Nat :=
  let arg0 : BitVec 32 := BitVec.ofNat 32 (i 0).val
  let v317 : Index := Scalar.indexCast arg0
  let c0_309 : Index := 0#32
  let c16 : Index := 16#32
  let c11_310 : Index := 11#32
  ![v317.toNat, 0, 16, 11]
def k0_cond25 (i : grid0.Coords) : BitVec 1 :=
  let arg1 : BitVec 32 := BitVec.ofNat 32 (i 1).val
  let c0_i32_241 : BitVec 32 := 0#32
  let v241 : BitVec 1 := Scalar.cmpi .eq arg1 c0_i32_241
  let v242 : BitVec 32 := Scalar.extui v241
  let c0_i32_242 : BitVec 32 := 0#32
  let v243 : BitVec 1 := Scalar.cmpi .ne v242 c0_i32_242
  v243

def k0_off49 (i : grid0.Coords) : Fin 4 → Nat :=
  let arg0 : BitVec 32 := BitVec.ofNat 32 (i 0).val
  let v309 : Index := Scalar.indexCast arg0
  let c0_303 : Index := 0#32
  let c12_304 : Index := 12#32
  let c0_305 : Index := 0#32
  ![v309.toNat, 0, 12, 0]
def k0_off50 (i : grid0.Coords) : Fin 4 → Nat :=
  let arg0 : BitVec 32 := BitVec.ofNat 32 (i 0).val
  let v313 : Index := Scalar.indexCast arg0
  let c0_306 : Index := 0#32
  let c16 : Index := 16#32
  let c12_307 : Index := 12#32
  ![v313.toNat, 0, 16, 12]
def k0_cond26 (i : grid0.Coords) : BitVec 1 :=
  let arg1 : BitVec 32 := BitVec.ofNat 32 (i 1).val
  let c0_i32_243 : BitVec 32 := 0#32
  let v244 : BitVec 1 := Scalar.cmpi .ne arg1 c0_i32_243
  let v245 : BitVec 32 := Scalar.extui v244
  let c0_i32_244 : BitVec 32 := 0#32
  let v246 : BitVec 1 := Scalar.cmpi .ne v245 c0_i32_244
  v246

def k0_off51 (i : grid0.Coords) : Fin 4 → Nat :=
  let arg0 : BitVec 32 := BitVec.ofNat 32 (i 0).val
  let v309 : Index := Scalar.indexCast arg0
  let c0_303 : Index := 0#32
  let c12_304 : Index := 12#32
  let c0_305 : Index := 0#32
  ![v309.toNat, 0, 12, 0]
def k0_off52 (i : grid0.Coords) : Fin 4 → Nat :=
  let arg0 : BitVec 32 := BitVec.ofNat 32 (i 0).val
  let v317 : Index := Scalar.indexCast arg0
  let c0_309 : Index := 0#32
  let c16 : Index := 16#32
  let c12_310 : Index := 12#32
  ![v317.toNat, 0, 16, 12]
def k0_cond27 (i : grid0.Coords) : BitVec 1 :=
  let arg1 : BitVec 32 := BitVec.ofNat 32 (i 1).val
  let c0_i32_260 : BitVec 32 := 0#32
  let v260 : BitVec 1 := Scalar.cmpi .eq arg1 c0_i32_260
  let v261 : BitVec 32 := Scalar.extui v260
  let c0_i32_261 : BitVec 32 := 0#32
  let v262 : BitVec 1 := Scalar.cmpi .ne v261 c0_i32_261
  v262

def k0_off53 (i : grid0.Coords) : Fin 4 → Nat :=
  let arg0 : BitVec 32 := BitVec.ofNat 32 (i 0).val
  let v309 : Index := Scalar.indexCast arg0
  let c0_303 : Index := 0#32
  let c13_304 : Index := 13#32
  let c0_305 : Index := 0#32
  ![v309.toNat, 0, 13, 0]
def k0_off54 (i : grid0.Coords) : Fin 4 → Nat :=
  let arg0 : BitVec 32 := BitVec.ofNat 32 (i 0).val
  let v313 : Index := Scalar.indexCast arg0
  let c0_306 : Index := 0#32
  let c16 : Index := 16#32
  let c13_307 : Index := 13#32
  ![v313.toNat, 0, 16, 13]
def k0_cond28 (i : grid0.Coords) : BitVec 1 :=
  let arg1 : BitVec 32 := BitVec.ofNat 32 (i 1).val
  let c0_i32_262 : BitVec 32 := 0#32
  let v263 : BitVec 1 := Scalar.cmpi .ne arg1 c0_i32_262
  let v264 : BitVec 32 := Scalar.extui v263
  let c0_i32_263 : BitVec 32 := 0#32
  let v265 : BitVec 1 := Scalar.cmpi .ne v264 c0_i32_263
  v265

def k0_off55 (i : grid0.Coords) : Fin 4 → Nat :=
  let arg0 : BitVec 32 := BitVec.ofNat 32 (i 0).val
  let v309 : Index := Scalar.indexCast arg0
  let c0_303 : Index := 0#32
  let c13_304 : Index := 13#32
  let c0_305 : Index := 0#32
  ![v309.toNat, 0, 13, 0]
def k0_off56 (i : grid0.Coords) : Fin 4 → Nat :=
  let arg0 : BitVec 32 := BitVec.ofNat 32 (i 0).val
  let v317 : Index := Scalar.indexCast arg0
  let c0_309 : Index := 0#32
  let c16 : Index := 16#32
  let c13_310 : Index := 13#32
  ![v317.toNat, 0, 16, 13]
def k0_cond29 (i : grid0.Coords) : BitVec 1 :=
  let arg1 : BitVec 32 := BitVec.ofNat 32 (i 1).val
  let c0_i32_279 : BitVec 32 := 0#32
  let v279 : BitVec 1 := Scalar.cmpi .eq arg1 c0_i32_279
  let v280 : BitVec 32 := Scalar.extui v279
  let c0_i32_280 : BitVec 32 := 0#32
  let v281 : BitVec 1 := Scalar.cmpi .ne v280 c0_i32_280
  v281

def k0_off57 (i : grid0.Coords) : Fin 4 → Nat :=
  let arg0 : BitVec 32 := BitVec.ofNat 32 (i 0).val
  let v309 : Index := Scalar.indexCast arg0
  let c0_303 : Index := 0#32
  let c14_304 : Index := 14#32
  let c0_305 : Index := 0#32
  ![v309.toNat, 0, 14, 0]
def k0_off58 (i : grid0.Coords) : Fin 4 → Nat :=
  let arg0 : BitVec 32 := BitVec.ofNat 32 (i 0).val
  let v313 : Index := Scalar.indexCast arg0
  let c0_306 : Index := 0#32
  let c16 : Index := 16#32
  let c14_307 : Index := 14#32
  ![v313.toNat, 0, 16, 14]
def k0_cond30 (i : grid0.Coords) : BitVec 1 :=
  let arg1 : BitVec 32 := BitVec.ofNat 32 (i 1).val
  let c0_i32_281 : BitVec 32 := 0#32
  let v282 : BitVec 1 := Scalar.cmpi .ne arg1 c0_i32_281
  let v283 : BitVec 32 := Scalar.extui v282
  let c0_i32_282 : BitVec 32 := 0#32
  let v284 : BitVec 1 := Scalar.cmpi .ne v283 c0_i32_282
  v284

def k0_off59 (i : grid0.Coords) : Fin 4 → Nat :=
  let arg0 : BitVec 32 := BitVec.ofNat 32 (i 0).val
  let v309 : Index := Scalar.indexCast arg0
  let c0_303 : Index := 0#32
  let c14_304 : Index := 14#32
  let c0_305 : Index := 0#32
  ![v309.toNat, 0, 14, 0]
def k0_off60 (i : grid0.Coords) : Fin 4 → Nat :=
  let arg0 : BitVec 32 := BitVec.ofNat 32 (i 0).val
  let v317 : Index := Scalar.indexCast arg0
  let c0_309 : Index := 0#32
  let c16 : Index := 16#32
  let c14_310 : Index := 14#32
  ![v317.toNat, 0, 16, 14]
def k0_cond31 (i : grid0.Coords) : BitVec 1 :=
  let arg1 : BitVec 32 := BitVec.ofNat 32 (i 1).val
  let c0_i32_298 : BitVec 32 := 0#32
  let v298 : BitVec 1 := Scalar.cmpi .eq arg1 c0_i32_298
  let v299 : BitVec 32 := Scalar.extui v298
  let c0_i32_299 : BitVec 32 := 0#32
  let v300 : BitVec 1 := Scalar.cmpi .ne v299 c0_i32_299
  v300

def k0_off61 (i : grid0.Coords) : Fin 4 → Nat :=
  let arg0 : BitVec 32 := BitVec.ofNat 32 (i 0).val
  let v309 : Index := Scalar.indexCast arg0
  let c0_303 : Index := 0#32
  let c15_304 : Index := 15#32
  let c0_305 : Index := 0#32
  ![v309.toNat, 0, 15, 0]
def k0_off62 (i : grid0.Coords) : Fin 4 → Nat :=
  let arg0 : BitVec 32 := BitVec.ofNat 32 (i 0).val
  let v313 : Index := Scalar.indexCast arg0
  let c0_306 : Index := 0#32
  let c16 : Index := 16#32
  let c15_307 : Index := 15#32
  ![v313.toNat, 0, 16, 15]
def k0_cond32 (i : grid0.Coords) : BitVec 1 :=
  let arg1 : BitVec 32 := BitVec.ofNat 32 (i 1).val
  let c0_i32_300 : BitVec 32 := 0#32
  let v301 : BitVec 1 := Scalar.cmpi .ne arg1 c0_i32_300
  let v302 : BitVec 32 := Scalar.extui v301
  let c0_i32_301 : BitVec 32 := 0#32
  let v303 : BitVec 1 := Scalar.cmpi .ne v302 c0_i32_301
  v303

def k0_off63 (i : grid0.Coords) : Fin 4 → Nat :=
  let arg0 : BitVec 32 := BitVec.ofNat 32 (i 0).val
  let v309 : Index := Scalar.indexCast arg0
  let c0_303 : Index := 0#32
  let c15_304 : Index := 15#32
  let c0_305 : Index := 0#32
  ![v309.toNat, 0, 15, 0]
def k0_off64 (i : grid0.Coords) : Fin 4 → Nat :=
  let arg0 : BitVec 32 := BitVec.ofNat 32 (i 0).val
  let v317 : Index := Scalar.indexCast arg0
  let c0_309 : Index := 0#32
  let c16 : Index := 16#32
  let c15_310 : Index := 15#32
  ![v317.toNat, 0, 16, 15]
def k0_cond33 (i : grid0.Coords) : BitVec 1 :=
  let arg0 : BitVec 32 := BitVec.ofNat 32 (i 0).val
  let c7_i32 : BitVec 32 := 7#32
  let v304 : BitVec 1 := Scalar.cmpi .eq arg0 c7_i32
  let arg1 : BitVec 32 := BitVec.ofNat 32 (i 1).val
  let c1_i32 : BitVec 32 := 1#32
  let v305 : BitVec 1 := Scalar.cmpi .eq arg1 c1_i32
  let v306 : BitVec 1 := Scalar.andi v304 v305
  let v307 : BitVec 32 := Scalar.extui v306
  let c0_i32_302 : BitVec 32 := 0#32
  let v308 : BitVec 1 := Scalar.cmpi .ne v307 c0_i32_302
  v308

def k0_dev1 (d309 : Dev nD) : Nat :=
  let c0_i32_309 : BitVec 32 := 0#32
  let v309 : BitVec 32 := Dev.word d309
  let c16_i32 : BitVec 32 := 16#32
  let v310 : BitVec 32 := Scalar.divsi v309 c16_i32
  let c2_i32 : BitVec 32 := 2#32
  let v311 : BitVec 32 := Scalar.remsi v310 c2_i32
  let c16_i32_308 : BitVec 32 := 16#32
  let v320 : BitVec 32 := Scalar.muli v311 c16_i32_308
  let v321 : BitVec 32 := Scalar.addi c0_i32_309 v320
  let v312 : BitVec 32 := Dev.word d309
  let c4_i32_303 : BitVec 32 := 4#32
  let v313 : BitVec 32 := Scalar.divsi v312 c4_i32_303
  let c4_i32 : BitVec 32 := 4#32
  let v314 : BitVec 32 := Scalar.remsi v313 c4_i32
  let c1_i32_306 : BitVec 32 := 1#32
  let v319 : BitVec 32 := Scalar.xori v314 c1_i32_306
  let c4_i32_310 : BitVec 32 := 4#32
  let v322 : BitVec 32 := Scalar.muli v319 c4_i32_310
  let v323 : BitVec 32 := Scalar.addi v321 v322
  let v315 : BitVec 32 := Dev.word d309
  let c1_i32_305 : BitVec 32 := 1#32
  let v316 : BitVec 32 := Scalar.divsi v315 c1_i32_305
  let c4_i32_304 : BitVec 32 := 4#32
  let v317 : BitVec 32 := Scalar.remsi v316 c4_i32_304
  let c1_i32_311 : BitVec 32 := 1#32
  let v324 : BitVec 32 := Scalar.muli v317 c1_i32_311
  let v325 : BitVec 32 := Scalar.addi v323 v324
  v325.toNat
def k0_dev2 (d309 : Dev nD) : Nat :=
  let c0_i32_315 : BitVec 32 := 0#32
  let v309 : BitVec 32 := Dev.word d309
  let c16_i32 : BitVec 32 := 16#32
  let v310 : BitVec 32 := Scalar.divsi v309 c16_i32
  let c2_i32 : BitVec 32 := 2#32
  let v311 : BitVec 32 := Scalar.remsi v310 c2_i32
  let c16_i32_314 : BitVec 32 := 16#32
  let v327 : BitVec 32 := Scalar.muli v311 c16_i32_314
  let v328 : BitVec 32 := Scalar.addi c0_i32_315 v327
  let v312 : BitVec 32 := Dev.word d309
  let c4_i32_303 : BitVec 32 := 4#32
  let v313 : BitVec 32 := Scalar.divsi v312 c4_i32_303
  let c4_i32 : BitVec 32 := 4#32
  let v314 : BitVec 32 := Scalar.remsi v313 c4_i32
  let c2_i32_312 : BitVec 32 := 2#32
  let v326 : BitVec 32 := Scalar.xori v314 c2_i32_312
  let c4_i32_316 : BitVec 32 := 4#32
  let v329 : BitVec 32 := Scalar.muli v326 c4_i32_316
  let v330 : BitVec 32 := Scalar.addi v328 v329
  let v315 : BitVec 32 := Dev.word d309
  let c1_i32_305 : BitVec 32 := 1#32
  let v316 : BitVec 32 := Scalar.divsi v315 c1_i32_305
  let c4_i32_304 : BitVec 32 := 4#32
  let v317 : BitVec 32 := Scalar.remsi v316 c4_i32_304
  let c1_i32_317 : BitVec 32 := 1#32
  let v331 : BitVec 32 := Scalar.muli v317 c1_i32_317
  let v332 : BitVec 32 := Scalar.addi v330 v331
  v332.toNat
def k0_dev3 (d309 : Dev nD) : Nat :=
  let c0_i32_324 : BitVec 32 := 0#32
  let v309 : BitVec 32 := Dev.word d309
  let c16_i32 : BitVec 32 := 16#32
  let v310 : BitVec 32 := Scalar.divsi v309 c16_i32
  let c2_i32 : BitVec 32 := 2#32
  let v311 : BitVec 32 := Scalar.remsi v310 c2_i32
  let c16_i32_323 : BitVec 32 := 16#32
  let v334 : BitVec 32 := Scalar.muli v311 c16_i32_323
  let v335 : BitVec 32 := Scalar.addi c0_i32_324 v334
  let v312 : BitVec 32 := Dev.word d309
  let c4_i32_303 : BitVec 32 := 4#32
  let v313 : BitVec 32 := Scalar.divsi v312 c4_i32_303
  let c4_i32 : BitVec 32 := 4#32
  let v314 : BitVec 32 := Scalar.remsi v313 c4_i32
  let c1_i32_319 : BitVec 32 := 1#32
  let v333 : BitVec 32 := Scalar.xori v314 c1_i32_319
  let c4_i32_325 : BitVec 32 := 4#32
  let v336 : BitVec 32 := Scalar.muli v333 c4_i32_325
  let v337 : BitVec 32 := Scalar.addi v335 v336
  let v315 : BitVec 32 := Dev.word d309
  let c1_i32_305 : BitVec 32 := 1#32
  let v316 : BitVec 32 := Scalar.divsi v315 c1_i32_305
  let c4_i32_304 : BitVec 32 := 4#32
  let v317 : BitVec 32 := Scalar.remsi v316 c4_i32_304
  let c1_i32_326 : BitVec 32 := 1#32
  let v338 : BitVec 32 := Scalar.muli v317 c1_i32_326
  let v339 : BitVec 32 := Scalar.addi v337 v338
  v339.toNat
def k0_dev4 (d309 : Dev nD) : Nat :=
  let c0_i32_368 : BitVec 32 := 0#32
  let v309 : BitVec 32 := Dev.word d309
  let c16_i32 : BitVec 32 := 16#32
  let v310 : BitVec 32 := Scalar.divsi v309 c16_i32
  let c2_i32 : BitVec 32 := 2#32
  let v311 : BitVec 32 := Scalar.remsi v310 c2_i32
  let c16_i32_367 : BitVec 32 := 16#32
  let v368 : BitVec 32 := Scalar.muli v311 c16_i32_367
  let v369 : BitVec 32 := Scalar.addi c0_i32_368 v368
  let v312 : BitVec 32 := Dev.word d309
  let c4_i32_303 : BitVec 32 := 4#32
  let v313 : BitVec 32 := Scalar.divsi v312 c4_i32_303
  let c4_i32 : BitVec 32 := 4#32
  let v314 : BitVec 32 := Scalar.remsi v313 c4_i32
  let c2_i32_363 : BitVec 32 := 2#32
  let v367 : BitVec 32 := Scalar.xori v314 c2_i32_363
  let c4_i32_369 : BitVec 32 := 4#32
  let v370 : BitVec 32 := Scalar.muli v367 c4_i32_369
  let v371 : BitVec 32 := Scalar.addi v369 v370
  let v315 : BitVec 32 := Dev.word d309
  let c1_i32_305 : BitVec 32 := 1#32
  let v316 : BitVec 32 := Scalar.divsi v315 c1_i32_305
  let c4_i32_304 : BitVec 32 := 4#32
  let v317 : BitVec 32 := Scalar.remsi v316 c4_i32_304
  let c1_i32_370 : BitVec 32 := 1#32
  let v372 : BitVec 32 := Scalar.muli v317 c1_i32_370
  let v373 : BitVec 32 := Scalar.addi v371 v372
  v373.toNat
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1x8x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x8x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== ReferenceIdeal.lean ====
abbrev S8x8x16x128 : Shape := ⟨4, ![8, 8, 16, 128]⟩
abbrev S8x4096x16x128 : Shape := ⟨4, ![8, 4096, 16, 128]⟩
abbrev S8x16x8x4096 : Shape := ⟨4, ![8, 16, 8, 4096]⟩
abbrev S_ : Shape := ⟨0, ![]⟩
abbrev S8x16x8 : Shape := ⟨3, ![8, 16, 8]⟩
abbrev S8x16x8x1 : Shape := ⟨4, ![8, 16, 8, 1]⟩
abbrev S8x16x128x8 : Shape := ⟨4, ![8, 16, 128, 8]⟩

abbrev nBuf : Space → Nat
  | .hbm => 20
  | .vmem => 0
  | .smem => 0
  | _ => 0

abbrev bufTy : (tb : Table) → Fin (tcTables nBuf tb) → BufTy
  | .hbm, ⟨0, _⟩ => ⟨S8x8x16x128, .f32⟩
  | .hbm, ⟨1, _⟩ => ⟨S8x4096x16x128, .f32⟩
  | .hbm, ⟨2, _⟩ => ⟨S8x4096x16x128, .f32⟩
  | .hbm, ⟨3, _⟩ => ⟨S8x16x8x4096, .f32⟩
  | .hbm, ⟨4, _⟩ => ⟨S_, .f32⟩
  | .hbm, ⟨5, _⟩ => ⟨S8x16x8x4096, .f32⟩
  | .hbm, ⟨6, _⟩ => ⟨S8x16x8x4096, .f32⟩
  | .hbm, ⟨7, _⟩ => ⟨S_, .f32⟩
  | .hbm, ⟨8, _⟩ => ⟨S8x16x8, .f32⟩
  | .hbm, ⟨9, _⟩ => ⟨S8x16x8x1, .f32⟩
  | .hbm, ⟨10, _⟩ => ⟨S8x16x8x4096, .f32⟩
  | .hbm, ⟨11, _⟩ => ⟨S8x16x8x4096, .f32⟩
  | .hbm, ⟨12, _⟩ => ⟨S8x16x8x4096, .f32⟩
  | .hbm, ⟨13, _⟩ => ⟨S_, .f32⟩
  | .hbm, ⟨14, _⟩ => ⟨S8x16x8, .f32⟩
  | .hbm, ⟨15, _⟩ => ⟨S8x16x8x1, .f32⟩
  | .hbm, ⟨16, _⟩ => ⟨S8x16x8x4096, .f32⟩
  | .hbm, ⟨17, _⟩ => ⟨S8x16x8x4096, .f32⟩
  | .hbm, ⟨18, _⟩ => ⟨S8x16x128x8, .f32⟩
  | .hbm, ⟨19, _⟩ => ⟨S8x8x16x128, .f32⟩
  | _, _ => ⟨S8x8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Heads.lean ====
/-
  One grid point of the kernel as a chain of sixteen equal steps, one per attention head.

  The printed body is cut into parts by statement count, so a head's loads, its arithmetic and its stores lie spread over two parts. Here
  one head's step is written once, with the head as a variable, and the body at a point is shown to be the chain of the sixteen steps:
  `firstHead` where the point is the first key chunk of its batch row (the head's block is stored), `nextHead` where it is the second (the
  head's block is added to what the first chunk stored).
-/
module

public import proofs.«01_k».proof.Proof.Gen.KernelIdeal.Skeleton

@[expose] public section

set_option maxRecDepth 65536

noncomputable section

namespace Cert.FlashDec

open Idealize.ShloMosaic Idealize.SL.Sem
open Cert.KernelIdeal Cert.KernelIdeal.Gen

variable {F : FTy → Type} [FloatOps F]

/-- The kernel's programs on a TensorCore. -/
abbrev KProg (F : FTy → Type) [FloatOps F] (α : Type) : Type 1 := Prog (TpuEff nD τ sig (Elt F) Λ₀ .tc) α

/-! ## Where a head's data lie -/

/-- The first element of head `h`'s row of a staged block. -/
def rowAt (h : Fin 16) : Fin 4 → Nat := ![0, 0, h.val, 0]

/-- The first element of head `h`'s accumulated output in the accumulator, for the point's batch row. -/
def accAt (i : grid0.Coords) (h : Fin 16) : Fin 4 → Nat :=
  ![(Scalar.indexCast (BitVec.ofNat 32 (i 0).val) : Index).toNat, 0, h.val, 0]

/-- The first element of head `h`'s accumulated normaliser: the accumulator's row 16, lane `h`. -/
def sumAt (i : grid0.Coords) (h : Fin 16) : Fin 4 → Nat :=
  ![(Scalar.indexCast (BitVec.ofNat 32 (i 0).val) : Index).toNat, 0, 16, h.val]

theorem rowAt_q : ∀ (h : Fin 16), ∀ a, (rowAt h) a + S1x8x1x128.size a ≤ S1x8x16x128.size a := by decide +kernel
theorem rowAt_kv : ∀ (h : Fin 16), ∀ a, (rowAt h) a + S1x512x1x128.size a ≤ S1x512x16x128.size a := by decide +kernel
theorem rowAt_out : ∀ (h : Fin 16), ∀ a, (rowAt h) a + S8x8x1x128.size a ≤ S8x8x16x128.size a := by decide +kernel
theorem rowAt_acc : ∀ (h : Fin 16), ∀ a, (rowAt h) a + S8x8x1x128.size a ≤ S8x8x17x128.size a := by decide +kernel
theorem accAt_inb : ∀ (i : grid0.Coords) (h : Fin 16), ∀ a, (accAt i h) a + S1x8x1x128.size a ≤ S8x8x17x128.size a := by decide +kernel
theorem sumAt_inb : ∀ (i : grid0.Coords) (h : Fin 16), ∀ a, (sumAt i h) a + S1x8x1x1.size a ≤ S8x8x17x128.size a := by decide +kernel

/-- The lane of the accumulator's row 16 that head `h`'s normaliser lies in, for every batch row at once. -/
def laneAt (h : Fin 16) : Fin 4 → Nat := ![0, 0, 16, h.val]
theorem laneAt_inb : ∀ (h : Fin 16), ∀ a, (laneAt h) a + S8x8x1x1.size a ≤ S8x8x17x128.size a := by decide +kernel

abbrev qRect (h : Fin 16) : Rect S1x8x16x128 := Rect.unit (s := S1x8x16x128) (rowAt h) S1x8x1x128.size (rowAt_q h)
abbrev kvRect (h : Fin 16) : Rect S1x512x16x128 := Rect.unit (s := S1x512x16x128) (rowAt h) S1x512x1x128.size (rowAt_kv h)
abbrev accRect (i : grid0.Coords) (h : Fin 16) : Rect S8x8x17x128 := Rect.unit (s := S8x8x17x128) (accAt i h) S1x8x1x128.size (accAt_inb i h)
abbrev sumRect (i : grid0.Coords) (h : Fin 16) : Rect S8x8x17x128 := Rect.unit (s := S8x8x17x128) (sumAt i h) S1x8x1x1.size (sumAt_inb i h)
abbrev numRect (h : Fin 16) : Rect S8x8x17x128 := Rect.unit (s := S8x8x17x128) (rowAt h) S8x8x1x128.size (rowAt_acc h)
abbrev denRect (h : Fin 16) : Rect S8x8x17x128 := Rect.unit (s := S8x8x17x128) (laneAt h) S8x8x1x1.size (laneAt_inb h)
abbrev outRect (h : Fin 16) : Rect S8x8x16x128 := Rect.unit (s := S8x8x16x128) (rowAt h) S8x8x1x128.size (rowAt_out h)

/-! ## One head's step -/

section Steps

variable (i : grid0.Coords) (q : Memref sig .tc .vmem S1x8x16x128 .f32) (k v : Memref sig .tc .vmem S1x512x16x128 .f32)
  (acc : Memref sig .tc .vmem S8x8x17x128 .f32) (out : Memref sig .tc .vmem S8x8x16x128 .f32)

/-- Head `h` at the first key chunk: its block of the product and its row sums are stored (each store is preceded by a load of the
    elements it overwrites, which nothing reads). -/
def firstHead (h : Fin 16) (K : KProg F PUnit) : KProg F PUnit :=
  .op (.load q (qRect h).toLoadRect (View.loadsAt_vmem h_S1x8x1x128)) fun x =>
  .op (.load k (kvRect h).toLoadRect (View.loadsAt_vmem h_S1x512x1x128)) fun y =>
  .op (.load v (kvRect h).toLoadRect (View.loadsAt_vmem h_S1x512x1x128)) fun z =>
  .op (.load acc (accRect i h).toLoadRect (View.loadsAt_vmem h_S1x8x1x128)) fun _ =>
  .op (.store acc (accRect i h) (k0_pay26 x y z) Finset.univ (View.stores_vmem_bits_univ h_S1x8x1x128 rfl) (.inl rfl)) fun _ =>
  .op (.load acc (sumRect i h).toLoadRect (View.loadsAt_vmem h_S1x8x1x1)) fun _ =>
  .op (.store acc (sumRect i h) (k0_pay27 x y) Finset.univ (View.stores_vmem_bits_univ h_S1x8x1x1 rfl) (.inl rfl)) fun _ => K

/-- Head `h` at the second key chunk: its block of the product and its row sums are added to what the accumulator holds. -/
def nextHead (h : Fin 16) (K : KProg F PUnit) : KProg F PUnit :=
  .op (.load q (qRect h).toLoadRect (View.loadsAt_vmem h_S1x8x1x128)) fun x =>
  .op (.load k (kvRect h).toLoadRect (View.loadsAt_vmem h_S1x512x1x128)) fun y =>
  .op (.load v (kvRect h).toLoadRect (View.loadsAt_vmem h_S1x512x1x128)) fun z =>
  .op (.load acc (accRect i h).toLoadRect (View.loadsAt_vmem h_S1x8x1x128)) fun a =>
  .op (.load acc (accRect i h).toLoadRect (View.loadsAt_vmem h_S1x8x1x128)) fun _ =>
  .op (.store acc (accRect i h) (k0_pay28 x y z a) Finset.univ (View.stores_vmem_bits_univ h_S1x8x1x128 rfl) (.inl rfl)) fun _ =>
  .op (.load acc (sumRect i h).toLoadRect (View.loadsAt_vmem h_S1x8x1x1)) fun s =>
  .op (.load acc (sumRect i h).toLoadRect (View.loadsAt_vmem h_S1x8x1x1)) fun _ =>
  .op (.store acc (sumRect i h) (k0_pay29 x y s) Finset.univ (View.stores_vmem_bits_univ h_S1x8x1x1 rfl) (.inl rfl)) fun _ => K

/-- Head `h`'s result: the accumulated product over the accumulated row sums, stored to the head's row of the output block. -/
def divHead (h : Fin 16) (K : KProg F PUnit) : KProg F PUnit :=
  .op (.load acc (numRect h).toLoadRect (View.loadsAt_vmem h_S8x8x1x128)) fun x =>
  .op (.load acc (denRect h).toLoadRect (View.loadsAt_vmem h_S8x8x1x1)) fun y =>
  .op (.load out (outRect h).toLoadRect (View.loadsAt_vmem h_S8x8x1x128)) fun _ =>
  .op (.store out (outRect h) (k0_pay2 x y) Finset.univ (View.stores_vmem_bits_univ h_S8x8x1x128 rfl) (.inl rfl)) fun _ => K

end Steps

/-! ## The exchange -/

section Exchange

variable (acc : Memref sig .tc .vmem S8x8x17x128 .f32) (hacc : acc.IsWhole) (rcv : Memref sig .tc .vmem S2x8x8x17x128 .f32) (sS rS : DmaSems sig S2)

/-- The first element of slot `s` of the landing buffer, and the place of its semaphore in the two semaphore arrays. -/
def slotAt (s : Fin 2) : Fin 5 → Nat := ![s.val, 0, 0, 0, 0]
def semAt (s : Fin 2) : Fin 1 → Nat := ![s.val]
theorem slotAt_inb : ∀ (s : Fin 2), ∀ a, (slotAt s) a + S1x8x8x17x128.size a ≤ S2x8x8x17x128.size a := by decide +kernel
theorem semAt_inb : ∀ (s : Fin 2), ∀ a, (semAt s) a + S1.size a ≤ S2.size a := by decide +kernel

abbrev slotRect (s : Fin 2) : Rect S2x8x8x17x128 := Rect.unit (s := S2x8x8x17x128) (slotAt s) S1x8x8x17x128.size (slotAt_inb s)

/-- Slot `s` of the landing buffer, as a copy's target names it. -/
abbrev slotOf (s : Fin 2) : Memref sig .tc .vmem S8x8x17x128 .f32 :=
  (rcv.slice (slotRect s) (fun _ => rfl)).squeeze S8x8x17x128 squeezes_S1x8x8x17x128_S8x8x17x128

/-- The semaphore of step `s` in a semaphore array. -/
abbrev semOf (a : DmaSems sig S2) (s : Fin 2) : DmaSem sig := ((a.slice (Rect.unit (s := S2) (semAt s) S1.size (semAt_inb s))).squeeze S_ squeezes_S1_S_).sem

/-- The runtime's barrier semaphore of this kernel. -/
abbrev barS : Sem sig := (SemArray.scalar (sig.barrier 0 rfl) : Sems sig S_).sem

abbrev accAll : Rect S8x8x17x128 := Rect.unit (s := S8x8x17x128) ![0, 0, 0, 0] S8x8x17x128.size inb_S8x8x17x128_S8x8x17x128_0_0_0_0

/-- Step `s` of the exchange with device `n`: the accumulator is copied into slot `s` of `n`'s landing buffer, both ends of the copy and of the
    one coming the other way are waited for, and what has landed is added to the accumulator. -/
def swapStep (s : Fin 2) (n : Dev nD) (K : KProg F PUnit) : KProg F PUnit :=
  .op (.enqueueDma acc (.remote (Dev.tc n) (slotOf rcv s) (.dma (semOf sS s))) (.dma (semOf rS s)) hacc.wordExact
    ((View.wordExact_bits rfl).reshape _ _) ⟨⟨rfl, Or.inl rfl⟩, trivial⟩) fun _ =>
  .op (.waitDma2 (semOf sS s) (slotOf rcv s) acc ((View.wordExact_bits rfl).reshape _ _) hacc.wordExact) fun _ =>
  .op (.waitDma2 (semOf rS s) acc (slotOf rcv s) hacc.wordExact ((View.wordExact_bits rfl).reshape _ _)) fun _ =>
  .op (.load acc accAll.toLoadRect (View.loadsAt_vmem h_S8x8x17x128)) fun a =>
  .op (.load rcv (slotRect s).toLoadRect (View.loadsAt_vmem h_S1x8x8x17x128)) fun r =>
  .op (.load acc accAll.toLoadRect (View.loadsAt_vmem h_S8x8x17x128)) fun _ =>
  .op (.store acc accAll (k0_pay3 a r) Finset.univ (View.stores_vmem_bits_univ h_S8x8x17x128 rfl) (.inl rfl)) fun _ => K

/-- The whole exchange as device `d` runs it, `n s` its partner in step `s`: it tells both partners that it has entered, waits until both have,
    and swaps accumulators with one and then with the other. -/
def exchange (n : Fin 2 → Dev nD) (K : KProg F PUnit) : KProg F PUnit := do
  semSignalWord (n 0) barS 1#32
  semSignalWord (n 1) barS 1#32
  semWaitWord barS 2#32
  swapStep acc hacc rcv sS rS 0 (n 0) (swapStep acc hacc rcv sS rS 1 (n 1) K)

end Exchange

/-- The sixteen heads, in program order. -/
def heads : List (Fin 16) := [0, 1, 2, 3, 4, 5, 6, 7, 8, 9, 10, 11, 12, 13, 14, 15]

theorem heads_nodup : heads.Nodup := by decide
theorem mem_heads : ∀ h : Fin 16, h ∈ heads := by decide

/-- A chain of steps, one per head, and then `K`. -/
def chain (step : Fin 16 → KProg F PUnit → KProg F PUnit) (hs : List (Fin 16)) (K : KProg F PUnit) : KProg F PUnit := hs.foldr step K

/-! ## The conditions -/

theorem cond_first : ∀ i : grid0.Coords, (i 1).val = 0 →
    (k0_cond1 i = 1#1 ∧ k0_cond3 i = 1#1 ∧ k0_cond5 i = 1#1 ∧ k0_cond7 i = 1#1 ∧ k0_cond9 i = 1#1 ∧ k0_cond11 i = 1#1 ∧ k0_cond13 i = 1#1
      ∧ k0_cond15 i = 1#1 ∧ k0_cond17 i = 1#1 ∧ k0_cond19 i = 1#1 ∧ k0_cond21 i = 1#1 ∧ k0_cond23 i = 1#1 ∧ k0_cond25 i = 1#1
      ∧ k0_cond27 i = 1#1 ∧ k0_cond29 i = 1#1 ∧ k0_cond31 i = 1#1)
    ∧ (¬ k0_cond2 i = 1#1 ∧ ¬ k0_cond4 i = 1#1 ∧ ¬ k0_cond6 i = 1#1 ∧ ¬ k0_cond8 i = 1#1 ∧ ¬ k0_cond10 i = 1#1 ∧ ¬ k0_cond12 i = 1#1
      ∧ ¬ k0_cond14 i = 1#1 ∧ ¬ k0_cond16 i = 1#1 ∧ ¬ k0_cond18 i = 1#1 ∧ ¬ k0_cond20 i = 1#1 ∧ ¬ k0_cond22 i = 1#1 ∧ ¬ k0_cond24 i = 1#1
      ∧ ¬ k0_cond26 i = 1#1 ∧ ¬ k0_cond28 i = 1#1 ∧ ¬ k0_cond30 i = 1#1 ∧ ¬ k0_cond32 i = 1#1)
    ∧ ¬ k0_cond33 i = 1#1 := by decide +kernel

theorem cond_next : ∀ i : grid0.Coords, (i 1).val ≠ 0 →
    (¬ k0_cond1 i = 1#1 ∧ ¬ k0_cond3 i = 1#1 ∧ ¬ k0_cond5 i = 1#1 ∧ ¬ k0_cond7 i = 1#1 ∧ ¬ k0_cond9 i = 1#1 ∧ ¬ k0_cond11 i = 1#1
      ∧ ¬ k0_cond13 i = 1#1 ∧ ¬ k0_cond15 i = 1#1 ∧ ¬ k0_cond17 i = 1#1 ∧ ¬ k0_cond19 i = 1#1 ∧ ¬ k0_cond21 i = 1#1 ∧ ¬ k0_cond23 i = 1#1
      ∧ ¬ k0_cond25 i = 1#1 ∧ ¬ k0_cond27 i = 1#1 ∧ ¬ k0_cond29 i = 1#1 ∧ ¬ k0_cond31 i = 1#1)
    ∧ (k0_cond2 i = 1#1 ∧ k0_cond4 i = 1#1 ∧ k0_cond6 i = 1#1 ∧ k0_cond8 i = 1#1 ∧ k0_cond10 i = 1#1 ∧ k0_cond12 i = 1#1 ∧ k0_cond14 i = 1#1
      ∧ k0_cond16 i = 1#1 ∧ k0_cond18 i = 1#1 ∧ k0_cond20 i = 1#1 ∧ k0_cond22 i = 1#1 ∧ k0_cond24 i = 1#1 ∧ k0_cond26 i = 1#1
      ∧ k0_cond28 i = 1#1 ∧ k0_cond30 i = 1#1 ∧ k0_cond32 i = 1#1) := by decide +kernel

section Whole

variable (i : grid0.Coords) (q : Memref sig .tc .vmem S1x8x16x128 .f32) (hq : q.IsWhole)
  (k : Memref sig .tc .vmem S1x512x16x128 .f32) (hk : k.IsWhole) (v : Memref sig .tc .vmem S1x512x16x128 .f32) (hv : v.IsWhole)
  (out : Memref sig .tc .vmem S8x8x16x128 .f32) (hout : out.IsWhole)
  (acc : Memref sig .tc .vmem S8x8x17x128 .f32) (hacc : acc.IsWhole) (rcv : Memref sig .tc .vmem S2x8x8x17x128 .f32) (hrcv : rcv.IsWhole)
  (sS rS : DmaSems sig S2)

set_option maxHeartbeats 4000000 in
/-- A point of the first key chunk is the chain of the sixteen storing steps. -/
theorem body_first (h0 : (i 1).val = 0) :
    cc0_body (F := F) i q hq k hk v hv out hout acc hacc rcv hrcv sS rS = chain (firstHead i q k v acc) heads (.ret ⟨⟩) := by
  obtain ⟨⟨h1, h3, h5, h7, h9, h11, h13, h15, h17, h19, h21, h23, h25, h27, h29, h31⟩,
    ⟨h2, h4, h6, h8, h10, h12, h14, h16, h18, h20, h22, h24, h26, h28, h30, h32⟩, h33⟩ := cond_first i h0
  rw [cc0_body_eq_skeleton]
  simp only [cc0_body_skel, k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton, k0_part20_eq_skeleton,
    k0_part10_skel, k0_part11_skel, k0_part12_skel, k0_part13_skel, k0_part14_skel, k0_part15_skel, k0_part16_skel, k0_part17_skel,
    k0_part18_skel, k0_part19_skel, k0_part20_skel,
    dif_pos h1, dif_pos h3, dif_pos h5, dif_pos h7, dif_pos h9, dif_pos h11, dif_pos h13, dif_pos h15, dif_pos h17, dif_pos h19, dif_pos h21,
    dif_pos h23, dif_pos h25, dif_pos h27, dif_pos h29, dif_pos h31,
    dif_neg h2, dif_neg h4, dif_neg h6, dif_neg h8, dif_neg h10, dif_neg h12, dif_neg h14, dif_neg h16, dif_neg h18, dif_neg h20, dif_neg h22,
    dif_neg h24, dif_neg h26, dif_neg h28, dif_neg h30, dif_neg h32, dif_neg h33]
  rfl

set_option maxHeartbeats 4000000 in
/-- A point of the second key chunk, the last one excepted, is the chain of the sixteen adding steps. -/
theorem body_next (h0 : (i 1).val ≠ 0) (h33 : ¬ k0_cond33 i = 1#1) :
    cc0_body (F := F) i q hq k hk v hv out hout acc hacc rcv hrcv sS rS = chain (nextHead i q k v acc) heads (.ret ⟨⟩) := by
  obtain ⟨⟨h1, h3, h5, h7, h9, h11, h13, h15, h17, h19, h21, h23, h25, h27, h29, h31⟩,
    ⟨h2, h4, h6, h8, h10, h12, h14, h16, h18, h20, h22, h24, h26, h28, h30, h32⟩⟩ := cond_next i h0
  rw [cc0_body_eq_skeleton]
  simp only [cc0_body_skel, k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton, k0_part20_eq_skeleton,
    k0_part10_skel, k0_part11_skel, k0_part12_skel, k0_part13_skel, k0_part14_skel, k0_part15_skel, k0_part16_skel, k0_part17_skel,
    k0_part18_skel, k0_part19_skel, k0_part20_skel,
    dif_neg h1, dif_neg h3, dif_neg h5, dif_neg h7, dif_neg h9, dif_neg h11, dif_neg h13, dif_neg h15, dif_neg h17, dif_neg h19, dif_neg h21,
    dif_neg h23, dif_neg h25, dif_neg h27, dif_neg h29, dif_neg h31,
    dif_pos h2, dif_pos h4, dif_pos h6, dif_pos h8, dif_pos h10, dif_pos h12, dif_pos h14, dif_pos h16, dif_pos h18, dif_pos h20, dif_pos h22,
    dif_pos h24, dif_pos h26, dif_pos h28, dif_pos h30, dif_pos h32, dif_neg h33]
  rfl

/-- Device `d`'s partner in step `s`, as the kernel computes it. -/
def partner (h33 : k0_cond33 i = 1#1) (d : Dev nD) (s : Fin 2) : Dev nD :=
  match s with
  | 0 => ⟨k0_dev1 d, k0_dev1_lt i d h33⟩
  | 1 => ⟨k0_dev2 d, k0_dev2_lt i d h33⟩

set_option maxHeartbeats 4000000 in
/-- The last point is the chain of the sixteen adding steps, the exchange with the two partners and the chain of the sixteen divisions. -/
theorem body_last (h0 : (i 1).val ≠ 0) (h33 : k0_cond33 i = 1#1) :
    cc0_body (F := F) i q hq k hk v hv out hout acc hacc rcv hrcv sS rS = chain (nextHead i q k v acc) heads
      (.op .deviceId fun d => exchange acc hacc rcv sS rS (partner i h33 d) (chain (divHead acc out) heads (.ret ⟨⟩))) := by
  obtain ⟨⟨h1, h3, h5, h7, h9, h11, h13, h15, h17, h19, h21, h23, h25, h27, h29, h31⟩,
    ⟨h2, h4, h6, h8, h10, h12, h14, h16, h18, h20, h22, h24, h26, h28, h30, h32⟩⟩ := cond_next i h0
  rw [cc0_body_eq_skeleton]
  simp only [cc0_body_skel, k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton, k0_part20_eq_skeleton,
    k0_part10_skel, k0_part11_skel, k0_part12_skel, k0_part13_skel, k0_part14_skel, k0_part15_skel, k0_part16_skel, k0_part17_skel,
    k0_part18_skel, k0_part19_skel, k0_part20_skel,
    k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part1_skel, k0_part2_skel, k0_part3_skel, k0_part4_skel, k0_part5_skel,
    k0_part6_skel, k0_part7_skel, k0_part8_skel, k0_part9_skel,
    dif_neg h1, dif_neg h3, dif_neg h5, dif_neg h7, dif_neg h9, dif_neg h11, dif_neg h13, dif_neg h15, dif_neg h17, dif_neg h19, dif_neg h21,
    dif_neg h23, dif_neg h25, dif_neg h27, dif_neg h29, dif_neg h31,
    dif_pos h2, dif_pos h4, dif_pos h6, dif_pos h8, dif_pos h10, dif_pos h12, dif_pos h14, dif_pos h16, dif_pos h18, dif_pos h20, dif_pos h22,
    dif_pos h24, dif_pos h26, dif_pos h28, dif_pos h30, dif_pos h32, dif_pos h33]
  rfl

end Whole

end Cert.FlashDec
-- ==== Proof.Steps.lean ====
/-
  What the steps of one grid point do to the buffers they touch.

  Two rules for a load and a store through a memref held at known contents; the effect of one head's step (`firstHead`, `nextHead`,
  `divHead`) on the accumulator or the output block; and the effect of the sixteen steps, one after the other.
-/
module

public import proofs.«01_k».proof.Proof.Heads
public import proofs.«01_k».proof.Proof.Gen.KernelIdeal.Launch
public import Idealize.ShloMosaic.Lib.Pipeline.Launch
public import Idealize.ShloMosaic.Lib.Pipeline.Kit
public import Idealize.ShloMosaic.Lib.Pipeline.FrameBody
public import Idealize.ShloMosaic.Lib.MemrefSat
public import Idealize.ShloMosaic.Lib.Tactic

@[expose] public section

set_option maxRecDepth 16384

noncomputable section

namespace Cert.FlashDec

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)

variable {F : FTy → Type} [FloatOps F]

/-- The resources of the exchange's cells (a cell's duties are numbered by the exchange's two steps), and beside them the pipeline's. -/
abbrev UX : Type := URounds (GSem nD τ sig) (Fin 2)
abbrev UU : Type := UR sig nD τ × UX

local notation "𝕄" => MT nD τ sig Unit (Elt F) ℕ UU ℕ

abbrev 𝒱₀ : Variants := Variants.none

/-- A program of the kernel run on device `c`. -/
abbrev runs (c : Dev nD) (p : KProg F PUnit) (Q : PUnit → sProp 𝕄) : sProp 𝕄 :=
  wp frame (wpE (defs₀ (F := F)) 𝒱₀ (c : Thread nD τ) none) Set.univ p Q

section Access

variable (c : Dev nD) {s : Shape} {e : EltTy} (m : Memref sig .tc .vmem s e)

/-- A load reads the contents at the rectangle's indices. -/
theorem runs_load (X : s.Idx → Elt F e) (r : Rect s) {hl : m.view.LoadsAt r.toLoadRect} {k : (r.shape.Idx → Elt F e) → KProg F PUnit}
    {Q : PUnit → sProp 𝕄} :
    (owns (c : Thread nD τ) m fullShare X : sProp 𝕄)
      ⊢ iprop((owns (c : Thread nD τ) m fullShare X -∗ runs c (k (ld X r)) Q) -∗ runs c (.op (.load m r.toLoadRect hl) k) Q) := by
  unfold owns
  iintro ⟨%f, %hf, H⟩ Hk
  subst hf
  iapply (wp_load 𝒱₀ (c : Thread nD τ) none Set.univ (m := m) (hl := hl) (S := m.view.set) (View.setOn_subset_set m.view _)) $$ H
  iintro H
  iapply Hk
  iexists f
  isplitr; · ipureintro; rfl
  iexact H

/-- A store overwrites the contents at the rectangle's indices. -/
theorem runs_store (X : s.Idx → Elt F e) (r : Rect s) (w : r.shape.Idx → Elt F e) {hx : (m.access r).Stores Finset.univ}
    {hm : (Finset.univ : Finset r.shape.Idx) = Finset.univ ∨ ∀ a, r.stride a = 1} {k : PUnit → KProg F PUnit} {Q : PUnit → sProp 𝕄} :
    (owns (c : Thread nD τ) m fullShare X : sProp 𝕄)
      ⊢ iprop((owns (c : Thread nD τ) m fullShare (r.overlay X w) -∗ runs c (k ⟨⟩) Q)
          -∗ runs c (.op (.store m r w Finset.univ hx hm) k) Q) := by
  unfold owns
  iintro ⟨%f, %hf, H⟩ Hk
  subst hf
  iapply (wp_store 𝒱₀ (c : Thread nD τ) none Set.univ (m := m) (r := r) (w := w) (hx := hx) (hm := hm) (S := m.view.set)
    ((View.setOn_univ _ ▸ View.set_slice_subset m.view r))) $$ H
  iintro H
  iapply Hk
  iexists ((m.access r).write (Elt F) f w Finset.univ)
  isplitr
  · ipureintro
    funext j
    by_cases hj : j ∈ r.set
    · obtain ⟨x, rfl⟩ := r.exists_idx_of_mem hj
      exact (View.read_slice_write_emb r f w (Finset.mem_univ x)).trans (r.overlay_emb _ w x).symm
    · exact (View.read_slice_write_of_not_mem r f w _ (by rwa [Rect.map_emb_univ])).trans (r.overlay_of_not_mem _ w hj).symm
  iexact H

end Access

/-! ## One head's step -/

section Effects

variable (i : grid0.Coords) (X : S1x8x16x128.Idx → Elt F .f32) (Y Z : S1x512x16x128.Idx → Elt F .f32)

/-- The accumulator after head `h`'s step at the first key chunk. -/
def firstUpd (f : S8x8x17x128.Idx → Elt F .f32) (h : Fin 16) : S8x8x17x128.Idx → Elt F .f32 :=
  (sumRect i h).overlay ((accRect i h).overlay f (k0_pay26 (ld X (qRect h)) (ld Y (kvRect h)) (ld Z (kvRect h))))
    (k0_pay27 (ld X (qRect h)) (ld Y (kvRect h)))

/-- The accumulator after the first half of head `h`'s step at the second key chunk: the product added. -/
def nextMid (f : S8x8x17x128.Idx → Elt F .f32) (h : Fin 16) : S8x8x17x128.Idx → Elt F .f32 :=
  (accRect i h).overlay f (k0_pay28 (ld X (qRect h)) (ld Y (kvRect h)) (ld Z (kvRect h)) (ld f (accRect i h)))

/-- The accumulator after head `h`'s step at the second key chunk. -/
def nextUpd (f : S8x8x17x128.Idx → Elt F .f32) (h : Fin 16) : S8x8x17x128.Idx → Elt F .f32 :=
  (sumRect i h).overlay (nextMid i X Y Z f h) (k0_pay29 (ld X (qRect h)) (ld Y (kvRect h)) (ld (nextMid i X Y Z f h) (sumRect i h)))

/-- The output block after head `h`'s division, the accumulator holding `f`. -/
def divUpd (f : S8x8x17x128.Idx → Elt F .f32) (o : S8x8x16x128.Idx → Elt F .f32) (h : Fin 16) : S8x8x16x128.Idx → Elt F .f32 :=
  (outRect h).overlay o (k0_pay2 (ld f (numRect h)) (ld f (denRect h)))

variable (c : Dev nD) (q : Memref sig .tc .vmem S1x8x16x128 .f32) (k v : Memref sig .tc .vmem S1x512x16x128 .f32)
  (acc : Memref sig .tc .vmem S8x8x17x128 .f32) (out : Memref sig .tc .vmem S8x8x16x128 .f32)

/-- The three staged blocks of a point. -/
def staged : sProp 𝕄 :=
  iprop(owns (c : Thread nD τ) q fullShare X ∗ owns (c : Thread nD τ) k fullShare Y ∗ owns (c : Thread nD τ) v fullShare Z)

theorem runs_firstHead (f : S8x8x17x128.Idx → Elt F .f32) (h : Fin 16) (K : KProg F PUnit) (Q : PUnit → sProp 𝕄) :
    iprop(staged X Y Z c q k v ∗ owns (c : Thread nD τ) acc fullShare f)
      ⊢ iprop(((staged X Y Z c q k v ∗ owns (c : Thread nD τ) acc fullShare (firstUpd i X Y Z f h)) -∗ runs c K Q)
          -∗ runs c (firstHead i q k v acc h K) Q) := by
  unfold firstHead staged
  iintro ⟨⟨Hq, Hk, Hv⟩, Ha⟩ HK
  iapply (runs_load c q X _) $$ Hq; iintro Hq
  iapply (runs_load c k Y _) $$ Hk; iintro Hk
  iapply (runs_load c v Z _) $$ Hv; iintro Hv
  iapply (runs_load c acc _ _) $$ Ha; iintro Ha
  iapply (runs_store c acc _ _ _) $$ Ha; iintro Ha
  iapply (runs_load c acc _ _) $$ Ha; iintro Ha
  iapply (runs_store c acc _ _ _) $$ Ha; iintro Ha
  iapply HK
  isplitl [Hq Hk Hv]
  · isplitl [Hq]; · iexact Hq
    isplitl [Hk]; · iexact Hk
    iexact Hv
  iexact Ha

theorem runs_nextHead (f : S8x8x17x128.Idx → Elt F .f32) (h : Fin 16) (K : KProg F PUnit) (Q : PUnit → sProp 𝕄) :
    iprop(staged X Y Z c q k v ∗ owns (c : Thread nD τ) acc fullShare f)
      ⊢ iprop(((staged X Y Z c q k v ∗ owns (c : Thread nD τ) acc fullShare (nextUpd i X Y Z f h)) -∗ runs c K Q)
          -∗ runs c (nextHead i q k v acc h K) Q) := by
  unfold nextHead staged
  iintro ⟨⟨Hq, Hk, Hv⟩, Ha⟩ HK
  iapply (runs_load c q X _) $$ Hq; iintro Hq
  iapply (runs_load c k Y _) $$ Hk; iintro Hk
  iapply (runs_load c v Z _) $$ Hv; iintro Hv
  iapply (runs_load c acc _ _) $$ Ha; iintro Ha
  iapply (runs_load c acc _ _) $$ Ha; iintro Ha
  iapply (runs_store c acc _ _ _) $$ Ha; iintro Ha
  iapply (runs_load c acc _ _) $$ Ha; iintro Ha
  iapply (runs_load c acc _ _) $$ Ha; iintro Ha
  iapply (runs_store c acc _ _ _) $$ Ha; iintro Ha
  iapply HK
  isplitl [Hq Hk Hv]
  · isplitl [Hq]; · iexact Hq
    isplitl [Hk]; · iexact Hk
    iexact Hv
  iexact Ha

theorem runs_divHead (f : S8x8x17x128.Idx → Elt F .f32) (o : S8x8x16x128.Idx → Elt F .f32) (h : Fin 16) (K : KProg F PUnit)
    (Q : PUnit → sProp 𝕄) :
    iprop(owns (c : Thread nD τ) acc fullShare f ∗ owns (c : Thread nD τ) out fullShare o)
      ⊢ iprop(((owns (c : Thread nD τ) acc fullShare f ∗ owns (c : Thread nD τ) out fullShare (divUpd f o h)) -∗ runs c K Q)
          -∗ runs c (divHead acc out h K) Q) := by
  unfold divHead
  iintro ⟨Ha, Ho⟩ HK
  iapply (runs_load c acc _ _) $$ Ha; iintro Ha
  iapply (runs_load c acc _ _) $$ Ha; iintro Ha
  iapply (runs_load c out _ _) $$ Ho; iintro Ho
  iapply (runs_store c out _ _ _) $$ Ho; iintro Ho
  iapply HK
  isplitl [Ha]; · iexact Ha
  iexact Ho

/-! ## The sixteen steps -/

/-- A chain of steps, each of which turns `R a` into `R (upd a h)`, turns `R a` into `R` of the updates one after the other. -/
theorem runs_chain {A : Type} (R : A → sProp 𝕄) (upd : A → Fin 16 → A) (step : Fin 16 → KProg F PUnit → KProg F PUnit)
    (hstep : ∀ a h K Q, R a ⊢ iprop((R (upd a h) -∗ runs c K Q) -∗ runs c (step h K) Q)) (K : KProg F PUnit) (Q : PUnit → sProp 𝕄) :
    ∀ (hs : List (Fin 16)) (a : A), R a ⊢ iprop((R (hs.foldl upd a) -∗ runs c K Q) -∗ runs c (chain step hs K) Q)
  | [], a => by
    show R a ⊢ iprop((R a -∗ runs c K Q) -∗ runs c K Q)
    iintro H HK
    iapply HK; iexact H
  | h :: hs, a => by
    show R a ⊢ iprop((R (hs.foldl upd (upd a h)) -∗ runs c K Q) -∗ runs c (step h (chain step hs K)) Q)
    iintro H HK
    iapply (hstep a h (chain step hs K) Q) $$ H
    iintro H
    iapply (runs_chain R upd step hstep K Q hs (upd a h)) $$ H
    iexact HK

theorem runs_first (f : S8x8x17x128.Idx → Elt F .f32) (K : KProg F PUnit) (Q : PUnit → sProp 𝕄) :
    iprop(staged X Y Z c q k v ∗ owns (c : Thread nD τ) acc fullShare f)
      ⊢ iprop(((staged X Y Z c q k v ∗ owns (c : Thread nD τ) acc fullShare (heads.foldl (firstUpd i X Y Z) f)) -∗ runs c K Q)
          -∗ runs c (chain (firstHead i q k v acc) heads K) Q) :=
  runs_chain c (fun f => iprop(staged X Y Z c q k v ∗ owns (c : Thread nD τ) acc fullShare f)) (firstUpd i X Y Z) (firstHead i q k v acc)
    (fun f h K Q => runs_firstHead i X Y Z c q k v acc f h K Q) K Q heads f

theorem runs_next (f : S8x8x17x128.Idx → Elt F .f32) (K : KProg F PUnit) (Q : PUnit → sProp 𝕄) :
    iprop(staged X Y Z c q k v ∗ owns (c : Thread nD τ) acc fullShare f)
      ⊢ iprop(((staged X Y Z c q k v ∗ owns (c : Thread nD τ) acc fullShare (heads.foldl (nextUpd i X Y Z) f)) -∗ runs c K Q)
          -∗ runs c (chain (nextHead i q k v acc) heads K) Q) :=
  runs_chain c (fun f => iprop(staged X Y Z c q k v ∗ owns (c : Thread nD τ) acc fullShare f)) (nextUpd i X Y Z) (nextHead i q k v acc)
    (fun f h K Q => runs_nextHead i X Y Z c q k v acc f h K Q) K Q heads f

theorem runs_div (f : S8x8x17x128.Idx → Elt F .f32) (o : S8x8x16x128.Idx → Elt F .f32) (K : KProg F PUnit) (Q : PUnit → sProp 𝕄) :
    iprop(owns (c : Thread nD τ) acc fullShare f ∗ owns (c : Thread nD τ) out fullShare o)
      ⊢ iprop(((owns (c : Thread nD τ) acc fullShare f ∗ owns (c : Thread nD τ) out fullShare (heads.foldl (divUpd f) o)) -∗ runs c K Q)
          -∗ runs c (chain (divHead acc out) heads K) Q) :=
  runs_chain c (fun o => iprop(owns (c : Thread nD τ) acc fullShare f ∗ owns (c : Thread nD τ) out fullShare o)) (divUpd f) (divHead acc out)
    (fun o h K Q => runs_divHead c acc out f o h K Q) K Q heads o

end Effects

end Cert.FlashDec
-- ==== Proof.Blocks.lean ====
/-
  What the accumulator and the output block hold after the sixteen steps of a point.

  A point's contribution to the accumulator is one array `part`: row `h < 16` holds head `h`'s unnormalised output, and lane `h` of row 16
  head `h`'s row sum. The first key chunk's steps put the contribution into the point's batch row, the second's add theirs to it, and lanes
  16 and up of row 16 are never written. The division reads row `h` and lane `h` of row 16.
-/
module

public import proofs.«01_k».proof.Proof.Steps
public import Idealize.ShloMosaic.Lib.ValueIdx
public import Idealize.ShloMosaic.Lib.Pointwise

@[expose] public section

set_option maxRecDepth 16384

noncomputable section

namespace Cert.FlashDec

open Cert.KernelIdeal Cert.KernelIdeal.Gen
open Idealize.ShloMosaic
open Idealize.ShloMosaic.View (ld)

variable {F : FTy → Type} [FloatOps F]

/-- Updates of an array, one per member of a list, each at its own indices and no index belonging to two: every index is updated once. -/
theorem foldl_apply {H I V : Type} (own : H → I → Prop) [∀ h x, Decidable (own h x)] (g : V → I → V) (upd : (I → V) → H → I → V)
    (hupd : ∀ a h x, upd a h x = if own h x then g (a x) x else a x) (huniq : ∀ h h' x, own h x → own h' x → h = h') (x : I) :
    ∀ (hs : List H) (hn : hs.Nodup) (a : I → V),
      ((∃ h ∈ hs, own h x) → hs.foldl upd a x = g (a x) x) ∧ ((¬ ∃ h ∈ hs, own h x) → hs.foldl upd a x = a x)
  | [], _, a => ⟨fun ⟨_, h, _⟩ => absurd h (List.not_mem_nil), fun _ => rfl⟩
  | h :: hs, hn, a => by
    obtain ⟨hnot, hn'⟩ := List.nodup_cons.mp hn
    obtain ⟨ih1, ih2⟩ := foldl_apply own g upd hupd huniq x hs hn' (upd a h)
    simp only [List.foldl_cons]
    by_cases ho : own h x
    · have hrest : ¬ ∃ h' ∈ hs, own h' x := fun ⟨h', hm, ho'⟩ => hnot (huniq _ _ _ ho ho' ▸ hm)
      refine ⟨fun _ => ?_, fun hno => absurd ⟨h, List.mem_cons_self, ho⟩ hno⟩
      rw [ih2 hrest, hupd, if_pos ho]
    · have hat : upd a h x = a x := by rw [hupd, if_neg ho]
      refine ⟨fun ⟨h', hm, ho'⟩ => ?_, fun hno => ?_⟩
      · rcases List.mem_cons.mp hm with rfl | hm
        · exact absurd ho' ho
        · rw [ih1 ⟨h', hm, ho'⟩, hat]
      · rw [ih2 fun ⟨h', hm, ho'⟩ => hno ⟨h', List.mem_cons_of_mem _ hm, ho'⟩, hat]

/-! ## The rectangles by their indices -/

theorem row_val : ∀ i : grid0.Coords, (Scalar.indexCast (BitVec.ofNat 32 (i 0).val) : Index).toNat = (i 0).val := by decide +kernel

section Rects

variable (i : grid0.Coords) (h : Fin 16)

theorem accRect_idx (x : S1x8x1x128.Idx) : (accRect i h).idx x = ix4 (i 0) (x 1) ⟨h.val, by omega⟩ (x 3) := by
  have e0 := row_val i
  have h0 := (x 0).isLt; have h2 := (x 2).isLt
  funext a
  match a with
  | ⟨0, _⟩ => ext; change (Scalar.indexCast (BitVec.ofNat 32 (i 0).val) : Index).toNat + 1 * (x 0).val = (i 0).val; change (x 0).val < 1 at h0; omega
  | ⟨1, _⟩ => ext; change 0 + 1 * (x 1).val = (x 1).val; omega
  | ⟨2, _⟩ => ext; change h.val + 1 * (x 2).val = h.val; change (x 2).val < 1 at h2; omega
  | ⟨3, _⟩ => ext; change 0 + 1 * (x 3).val = (x 3).val; omega

theorem sumRect_idx (x : S1x8x1x1.Idx) : (sumRect i h).idx x = ix4 (i 0) (x 1) ⟨16, by omega⟩ ⟨h.val, by omega⟩ := by
  have e0 := row_val i
  have h0 := (x 0).isLt; have h2 := (x 2).isLt; have h3 := (x 3).isLt
  funext a
  match a with
  | ⟨0, _⟩ => ext; change (Scalar.indexCast (BitVec.ofNat 32 (i 0).val) : Index).toNat + 1 * (x 0).val = (i 0).val; change (x 0).val < 1 at h0; omega
  | ⟨1, _⟩ => ext; change 0 + 1 * (x 1).val = (x 1).val; omega
  | ⟨2, _⟩ => ext; change 16 + 1 * (x 2).val = 16; change (x 2).val < 1 at h2; omega
  | ⟨3, _⟩ => ext; change h.val + 1 * (x 3).val = h.val; change (x 3).val < 1 at h3; omega

theorem outRect_idx (x : S8x8x1x128.Idx) : (outRect h).idx x = ix4 (x 0) (x 1) h (x 3) := by
  have h2 := (x 2).isLt
  funext a
  match a with
  | ⟨0, _⟩ => ext; change 0 + 1 * (x 0).val = (x 0).val; omega
  | ⟨1, _⟩ => ext; change 0 + 1 * (x 1).val = (x 1).val; omega
  | ⟨2, _⟩ => ext; change h.val + 1 * (x 2).val = h.val; change (x 2).val < 1 at h2; omega
  | ⟨3, _⟩ => ext; change 0 + 1 * (x 3).val = (x 3).val; omega

theorem numRect_idx (x : S8x8x1x128.Idx) : (numRect h).idx x = ix4 (x 0) (x 1) ⟨h.val, by omega⟩ (x 3) := by
  have h2 := (x 2).isLt
  funext a
  match a with
  | ⟨0, _⟩ => ext; change 0 + 1 * (x 0).val = (x 0).val; omega
  | ⟨1, _⟩ => ext; change 0 + 1 * (x 1).val = (x 1).val; omega
  | ⟨2, _⟩ => ext; change h.val + 1 * (x 2).val = h.val; change (x 2).val < 1 at h2; omega
  | ⟨3, _⟩ => ext; change 0 + 1 * (x 3).val = (x 3).val; omega

theorem denRect_idx (x : S8x8x1x1.Idx) : (denRect h).idx x = ix4 (x 0) (x 1) ⟨16, by omega⟩ ⟨h.val, by omega⟩ := by
  have h2 := (x 2).isLt; have h3 := (x 3).isLt
  funext a
  match a with
  | ⟨0, _⟩ => ext; change 0 + 1 * (x 0).val = (x 0).val; omega
  | ⟨1, _⟩ => ext; change 0 + 1 * (x 1).val = (x 1).val; omega
  | ⟨2, _⟩ => ext; change 16 + 1 * (x 2).val = 16; change (x 2).val < 1 at h2; omega
  | ⟨3, _⟩ => ext; change h.val + 1 * (x 3).val = h.val; change (x 3).val < 1 at h3; omega

variable {i h}

theorem accRect_put (f : S8x8x17x128.Idx → Elt F .f32) (w : S1x8x1x128.Idx → Elt F .f32) (x : S8x8x17x128.Idx) :
    (accRect i h).overlay f w x = if (x 0).val = (i 0).val ∧ (x 2).val = h.val then w (ix4 0 (x 1) 0 (x 3)) else f x := by
  split
  · next hx =>
    have e : x = (accRect i h).idx (ix4 0 (x 1) 0 (x 3)) := by
      rw [accRect_idx]
      funext a
      match a with
      | ⟨0, _⟩ => exact Fin.ext hx.1
      | ⟨1, _⟩ => rfl
      | ⟨2, _⟩ => exact Fin.ext hx.2
      | ⟨3, _⟩ => rfl
    conv_lhs => rw [e]
    exact (accRect i h).overlay_emb f w (ix4 0 (x 1) 0 (x 3))
  · next hx =>
    refine (accRect i h).overlay_of_not_mem f w fun hm => hx ?_
    obtain ⟨j, rfl⟩ := (accRect i h).exists_idx_of_mem hm
    rw [accRect_idx]
    exact ⟨rfl, rfl⟩

theorem sumRect_put (f : S8x8x17x128.Idx → Elt F .f32) (w : S1x8x1x1.Idx → Elt F .f32) (x : S8x8x17x128.Idx) :
    (sumRect i h).overlay f w x = if (x 0).val = (i 0).val ∧ (x 2).val = 16 ∧ (x 3).val = h.val then w (ix4 0 (x 1) 0 0) else f x := by
  split
  · next hx =>
    have e : x = (sumRect i h).idx (ix4 0 (x 1) 0 0) := by
      rw [sumRect_idx]
      funext a
      match a with
      | ⟨0, _⟩ => exact Fin.ext hx.1
      | ⟨1, _⟩ => rfl
      | ⟨2, _⟩ => exact Fin.ext hx.2.1
      | ⟨3, _⟩ => exact Fin.ext hx.2.2
    conv_lhs => rw [e]
    exact (sumRect i h).overlay_emb f w (ix4 0 (x 1) 0 0)
  · next hx =>
    refine (sumRect i h).overlay_of_not_mem f w fun hm => hx ?_
    obtain ⟨j, rfl⟩ := (sumRect i h).exists_idx_of_mem hm
    rw [sumRect_idx]
    exact ⟨rfl, rfl, rfl⟩

theorem outRect_put (f : S8x8x16x128.Idx → Elt F .f32) (w : S8x8x1x128.Idx → Elt F .f32) (x : S8x8x16x128.Idx) :
    (outRect h).overlay f w x = if (x 2).val = h.val then w (ix4 (x 0) (x 1) 0 (x 3)) else f x := by
  split
  · next hx =>
    have e : x = (outRect h).idx (ix4 (x 0) (x 1) 0 (x 3)) := by
      rw [outRect_idx]
      funext a
      match a with
      | ⟨0, _⟩ => rfl
      | ⟨1, _⟩ => rfl
      | ⟨2, _⟩ => exact Fin.ext hx
      | ⟨3, _⟩ => rfl
    conv_lhs => rw [e]
    exact (outRect h).overlay_emb f w (ix4 (x 0) (x 1) 0 (x 3))
  · next hx =>
    refine (outRect h).overlay_of_not_mem f w fun hm => hx ?_
    obtain ⟨j, rfl⟩ := (outRect h).exists_idx_of_mem hm
    rw [outRect_idx]
    rfl

end Rects

/-! ## A point's contribution -/

section Part

variable (i : grid0.Coords) (X : S1x8x16x128.Idx → Elt F .f32) (Y Z : S1x512x16x128.Idx → Elt F .f32)

/-- The head whose row sum lies in a lane. -/
def headOf (n : Nat) : Fin 16 := ⟨n % 16, Nat.mod_lt _ (by decide)⟩

/-- What a point with the blocks `X`, `Y`, `Z` contributes to the accumulator: the unnormalised outputs, and in row 16 the row sums. -/
def part (x : S8x8x17x128.Idx) : Elt F .f32 :=
  if (x 2).val < 16 then
    k0_pay26 (ld X (qRect (headOf (x 2).val))) (ld Y (kvRect (headOf (x 2).val))) (ld Z (kvRect (headOf (x 2).val))) (ix4 0 (x 1) 0 (x 3))
  else k0_pay27 (ld X (qRect (headOf (x 3).val))) (ld Y (kvRect (headOf (x 3).val))) (ix4 0 (x 1) 0 0)

/-- The indices head `h`'s step writes, in the point's batch row. -/
def own (h : Fin 16) (x : S8x8x17x128.Idx) : Prop :=
  (x 0).val = (i 0).val ∧ ((x 2).val = h.val ∨ (x 2).val = 16 ∧ (x 3).val = h.val)

instance (h : Fin 16) (x : S8x8x17x128.Idx) : Decidable (own i h x) := inferInstanceAs (Decidable (_ ∧ (_ ∨ _ ∧ _)))

theorem own_unique (h h' : Fin 16) (x : S8x8x17x128.Idx) (H : own i h x) (H' : own i h' x) : h = h' := by
  unfold own at H H'
  exact Fin.ext (by omega)

/-- The indices the kernel ever writes in the accumulator. -/
def Written (x : S8x8x17x128.Idx) : Prop := (x 2).val < 16 ∨ (x 3).val < 16

theorem own_iff (x : S8x8x17x128.Idx) (hw : Written x) : (∃ h ∈ heads, own i h x) ↔ (x 0).val = (i 0).val := by
  have h2 : (x 2).val < 17 := (x 2).isLt
  refine ⟨fun ⟨h, _, ho⟩ => ho.1, fun h0 => ?_⟩
  by_cases hx : (x 2).val < 16
  · exact ⟨⟨(x 2).val, hx⟩, mem_heads _, h0, .inl rfl⟩
  · exact ⟨⟨(x 3).val, hw.resolve_left hx⟩, mem_heads _, h0, .inr ⟨by omega, rfl⟩⟩

theorem headOf_val (h : Fin 16) {n : Nat} (e : n = h.val) : headOf n = h := by
  subst e; exact Fin.ext (Nat.mod_eq_of_lt h.isLt)

theorem part_row (h : Fin 16) (x : S8x8x17x128.Idx) (h2 : (x 2).val = h.val) :
    part X Y Z x = k0_pay26 (ld X (qRect h)) (ld Y (kvRect h)) (ld Z (kvRect h)) (ix4 0 (x 1) 0 (x 3)) := by
  have hlt : (x 2).val < 16 := h2 ▸ h.isLt
  have e : headOf (x 2).val = h := headOf_val h h2
  unfold part
  rw [if_pos hlt, e]

theorem part_sum (h : Fin 16) (x : S8x8x17x128.Idx) (h2 : (x 2).val = 16) (h3 : (x 3).val = h.val) :
    part X Y Z x = k0_pay27 (ld X (qRect h)) (ld Y (kvRect h)) (ix4 0 (x 1) 0 0) := by
  have hlt : ¬ (x 2).val < 16 := by omega
  have e : headOf (x 3).val = h := headOf_val h h3
  unfold part
  rw [if_neg hlt, e]

theorem firstUpd_apply (f : S8x8x17x128.Idx → Elt F .f32) (h : Fin 16) (x : S8x8x17x128.Idx) :
    firstUpd i X Y Z f h x = if own i h x then part X Y Z x else f x := by
  have hh := h.isLt
  refine (sumRect_put _ _ x).trans ?_
  by_cases hs : (x 0).val = (i 0).val ∧ (x 2).val = 16 ∧ (x 3).val = h.val
  · have ho : own i h x := ⟨hs.1, .inr hs.2⟩
    rw [if_pos hs, if_pos ho, part_sum X Y Z h x hs.2.1 hs.2.2]
  · rw [if_neg hs]
    refine (accRect_put _ _ x).trans ?_
    by_cases ha : (x 0).val = (i 0).val ∧ (x 2).val = h.val
    · have ho : own i h x := ⟨ha.1, .inl ha.2⟩
      rw [if_pos ha, if_pos ho, part_row X Y Z h x ha.2]
    · have ho : ¬ own i h x := fun ho => ho.2.elim (fun h2 => ha ⟨ho.1, h2⟩) fun h2 => hs ⟨ho.1, h2⟩
      rw [if_neg ha, if_neg ho]

theorem pay28_apply (a : S1x8x1x128.Idx → Elt F .f32) (h : Fin 16) (j : S1x8x1x128.Idx) :
    k0_pay28 (ld X (qRect h)) (ld Y (kvRect h)) (ld Z (kvRect h)) a j
      = FloatOps.addf (a j) (k0_pay26 (ld X (qRect h)) (ld Y (kvRect h)) (ld Z (kvRect h)) j) := by
  unfold k0_pay28 k0_pay26
  pointwise

theorem pay29_apply (a : S1x8x1x1.Idx → Elt F .f32) (h : Fin 16) (j : S1x8x1x1.Idx) :
    k0_pay29 (ld X (qRect h)) (ld Y (kvRect h)) a j = FloatOps.addf (a j) (k0_pay27 (ld X (qRect h)) (ld Y (kvRect h)) j) := by
  unfold k0_pay29 k0_pay27
  pointwise

theorem accRect_ld (f : S8x8x17x128.Idx → Elt F .f32) (h : Fin 16) (x : S8x8x17x128.Idx)
    (hx : (x 0).val = (i 0).val ∧ (x 2).val = h.val) : ld f (accRect i h) (ix4 0 (x 1) 0 (x 3)) = f x := by
  show f ((accRect i h).idx _) = f x
  rw [accRect_idx]
  congr 1
  funext a
  match a with
  | ⟨0, _⟩ => exact Fin.ext hx.1.symm
  | ⟨1, _⟩ => rfl
  | ⟨2, _⟩ => exact Fin.ext hx.2.symm
  | ⟨3, _⟩ => rfl

theorem sumRect_ld (f : S8x8x17x128.Idx → Elt F .f32) (h : Fin 16) (x : S8x8x17x128.Idx)
    (hx : (x 0).val = (i 0).val ∧ (x 2).val = 16 ∧ (x 3).val = h.val) : ld f (sumRect i h) (ix4 0 (x 1) 0 0) = f x := by
  show f ((sumRect i h).idx _) = f x
  rw [sumRect_idx]
  congr 1
  funext a
  match a with
  | ⟨0, _⟩ => exact Fin.ext hx.1.symm
  | ⟨1, _⟩ => rfl
  | ⟨2, _⟩ => exact Fin.ext hx.2.1.symm
  | ⟨3, _⟩ => exact Fin.ext hx.2.2.symm

theorem nextMid_apply (f : S8x8x17x128.Idx → Elt F .f32) (h : Fin 16) (x : S8x8x17x128.Idx) :
    nextMid i X Y Z f h x = if (x 0).val = (i 0).val ∧ (x 2).val = h.val then FloatOps.addf (f x) (part X Y Z x) else f x := by
  refine (accRect_put _ _ x).trans ?_
  by_cases ha : (x 0).val = (i 0).val ∧ (x 2).val = h.val
  · rw [if_pos ha, if_pos ha, part_row X Y Z h x ha.2, ← accRect_ld i f h x ha]
    exact pay28_apply X Y Z _ h _
  · rw [if_neg ha, if_neg ha]

theorem nextUpd_apply (f : S8x8x17x128.Idx → Elt F .f32) (h : Fin 16) (x : S8x8x17x128.Idx) :
    nextUpd i X Y Z f h x = if own i h x then FloatOps.addf (f x) (part X Y Z x) else f x := by
  have hh := h.isLt
  refine (sumRect_put _ _ x).trans ?_
  by_cases hs : (x 0).val = (i 0).val ∧ (x 2).val = 16 ∧ (x 3).val = h.val
  · have ho : own i h x := ⟨hs.1, .inr hs.2⟩
    have hm : nextMid i X Y Z f h x = f x := (nextMid_apply i X Y Z f h x).trans (if_neg fun hc => by omega)
    rw [if_pos hs, if_pos ho, part_sum X Y Z h x hs.2.1 hs.2.2]
    refine (pay29_apply X Y _ h _).trans ?_
    rw [sumRect_ld i _ h x hs, hm]
  · rw [if_neg hs, nextMid_apply]
    by_cases ha : (x 0).val = (i 0).val ∧ (x 2).val = h.val
    · have ho : own i h x := ⟨ha.1, .inl ha.2⟩
      rw [if_pos ha, if_pos ho]
    · have ho : ¬ own i h x := fun ho => ho.2.elim (fun h2 => ha ⟨ho.1, h2⟩) fun h2 => hs ⟨ho.1, h2⟩
      rw [if_neg ha, if_neg ho]

/-- After the sixteen storing steps the point's batch row holds its contribution, and the other rows what they held. -/
theorem first_apply (f : S8x8x17x128.Idx → Elt F .f32) (x : S8x8x17x128.Idx) (hw : Written x) :
    heads.foldl (firstUpd i X Y Z) f x = if (x 0).val = (i 0).val then part X Y Z x else f x := by
  have H := foldl_apply (own i) (fun _ x => part X Y Z x) (firstUpd i X Y Z) (firstUpd_apply i X Y Z) (own_unique i) x heads heads_nodup f
  split
  · next h => exact H.1 ((own_iff i x hw).mpr h)
  · next h => exact H.2 fun hc => h ((own_iff i x hw).mp hc)

/-- After the sixteen adding steps the contribution has been added to the point's batch row. -/
theorem next_apply (f : S8x8x17x128.Idx → Elt F .f32) (x : S8x8x17x128.Idx) (hw : Written x) :
    heads.foldl (nextUpd i X Y Z) f x = if (x 0).val = (i 0).val then FloatOps.addf (f x) (part X Y Z x) else f x := by
  have H := foldl_apply (own i) (fun v x => FloatOps.addf v (part X Y Z x)) (nextUpd i X Y Z) (nextUpd_apply i X Y Z) (own_unique i) x heads
    heads_nodup f
  split
  · next h => exact H.1 ((own_iff i x hw).mpr h)
  · next h => exact H.2 fun hc => h ((own_iff i x hw).mp hc)

/-! ## The division -/

/-- The quotient the output block holds: row `h` of the accumulator over lane `h` of its row 16. -/
def quot (f : S8x8x17x128.Idx → Elt F .f32) (x : S8x8x16x128.Idx) : Elt F .f32 :=
  FloatOps.divf (f (ix4 (x 0) (x 1) ⟨(x 2).val, lt_of_lt_of_le (x 2).isLt (by decide)⟩ (x 3)))
    (f (ix4 (x 0) (x 1) ⟨16, by decide⟩ ⟨(x 2).val, lt_of_lt_of_le (x 2).isLt (by decide)⟩))

theorem pay2_apply (a : S8x8x1x128.Idx → Elt F .f32) (b : S8x8x1x1.Idx → Elt F .f32) (p r : Fin 8) (d : Fin 128) :
    k0_pay2 a b (ix4 p r 0 d) = FloatOps.divf (a (ix4 p r 0 d)) (b (ix4 p r 0 0)) := by
  unfold k0_pay2
  pointwise

theorem divUpd_apply (f : S8x8x17x128.Idx → Elt F .f32) (o : S8x8x16x128.Idx → Elt F .f32) (h : Fin 16) (x : S8x8x16x128.Idx) :
    divUpd f o h x = if (x 2).val = h.val then quot f x else o x := by
  refine (outRect_put _ _ x).trans ?_
  by_cases hx : (x 2).val = h.val
  · rw [if_pos hx, if_pos hx]
    refine (pay2_apply _ _ _ _ _).trans ?_
    have e1 : ld f (numRect h) (ix4 (x 0) (x 1) 0 (x 3)) = f (ix4 (x 0) (x 1) ⟨(x 2).val, lt_of_lt_of_le (x 2).isLt (by decide)⟩ (x 3)) := by
      show f ((numRect h).idx _) = _
      rw [numRect_idx]
      congr 1
      funext a
      match a with
      | ⟨0, _⟩ => rfl
      | ⟨1, _⟩ => rfl
      | ⟨2, _⟩ => exact Fin.ext hx.symm
      | ⟨3, _⟩ => rfl
    have e2 : ld f (denRect h) (ix4 (x 0) (x 1) 0 0)
        = f (ix4 (x 0) (x 1) ⟨16, by decide⟩ ⟨(x 2).val, lt_of_lt_of_le (x 2).isLt (by decide)⟩) := by
      show f ((denRect h).idx _) = _
      rw [denRect_idx]
      congr 1
      funext a
      match a with
      | ⟨0, _⟩ => rfl
      | ⟨1, _⟩ => rfl
      | ⟨2, _⟩ => rfl
      | ⟨3, _⟩ => exact Fin.ext hx.symm
    exact congrArg₂ FloatOps.divf e1 e2
  · rw [if_neg hx, if_neg hx]

/-- After the sixteen divisions the output block holds the quotients. -/
theorem div_apply (f : S8x8x17x128.Idx → Elt F .f32) (o : S8x8x16x128.Idx → Elt F .f32) : heads.foldl (divUpd f) o = quot f := by
  funext x
  have H := foldl_apply (fun (h : Fin 16) (x : S8x8x16x128.Idx) => (x 2).val = h.val) (fun _ x => quot f x) (divUpd f) (divUpd_apply f)
    (fun h h' x e e' => Fin.ext (e.symm.trans e')) x heads heads_nodup o
  exact H.1 ⟨⟨(x 2).val, (x 2).isLt⟩, mem_heads _, rfl⟩

/-- The quotients of two accumulators that agree at the indices the kernel writes are the same. -/
theorem quot_congr {f g : S8x8x17x128.Idx → Elt F .f32} (h : ∀ x, Written x → f x = g x) : quot f = quot g := by
  funext x
  unfold quot
  have h2 : (x 2).val < 16 := (x 2).isLt
  exact congrArg₂ FloatOps.divf (h _ (.inl h2)) (h _ (.inr h2))

/-! ## The exchange's addition -/

theorem accAll_ld (f : S8x8x17x128.Idx → Elt F .f32) : ld f accAll = f := by
  funext x
  show f (accAll.idx x) = f x
  congr 1
  funext a
  match a with
  | ⟨0, _⟩ => ext; change 0 + 1 * (x 0).val = (x 0).val; omega
  | ⟨1, _⟩ => ext; change 0 + 1 * (x 1).val = (x 1).val; omega
  | ⟨2, _⟩ => ext; change 0 + 1 * (x 2).val = (x 2).val; omega
  | ⟨3, _⟩ => ext; change 0 + 1 * (x 3).val = (x 3).val; omega

theorem accAll_put (f w : S8x8x17x128.Idx → Elt F .f32) : accAll.overlay f w = w := by
  have e : ld (accAll.overlay f w) accAll = w := funext fun x => accAll.overlay_emb f w x
  rwa [accAll_ld] at e

theorem pay3_apply (a : S8x8x17x128.Idx → Elt F .f32) (b : S1x8x8x17x128.Idx → Elt F .f32) (x : S8x8x17x128.Idx) :
    k0_pay3 a b x = FloatOps.addf (a x) (b (ix5 0 (x 0) (x 1) (x 2) (x 3))) := by
  unfold k0_pay3
  pointwise

end Part

end Cert.FlashDec
-- ==== Proof.Slots.lean ====
/-
  The landing buffer as two slots.

  A copy names a slot as a squeezed slice of the landing buffer, the body's load as a rectangle of the whole buffer. Here the buffer is split
  into its two slots and put together again, and the load is shown to need only its own slot.
-/
module

public import proofs.«01_k».proof.Proof.Blocks

@[expose] public section

set_option maxRecDepth 16384

noncomputable section

namespace Cert.FlashDec

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.View (ld)

variable {F : FTy → Type} [FloatOps F]

local notation "𝕄" => MT nD τ sig Unit (Elt F) ℕ UU ℕ

variable (c : Dev nD) (rcv : Memref sig .tc .vmem S2x8x8x17x128 .f32)

/-- An index of a slot with the leading unit axis of the slice it squeezes. -/
def lead (x : S8x8x17x128.Idx) : S1x8x8x17x128.Idx := ix5 0 (x 0) (x 1) (x 2) (x 3)

/-- An index of a slice without its leading unit axis. -/
def unlead (y : S1x8x8x17x128.Idx) : S8x8x17x128.Idx := ix4 (y 1) (y 2) (y 3) (y 4)

theorem lead_unlead (y : S1x8x8x17x128.Idx) : lead (unlead y) = y := by
  have h0 : (y 0).val < 1 := (y 0).isLt
  funext a
  match a with
  | ⟨0, _⟩ => ext; change 0 = (y 0).val; omega
  | ⟨1, _⟩ => rfl
  | ⟨2, _⟩ => rfl
  | ⟨3, _⟩ => rfl
  | ⟨4, _⟩ => rfl

theorem unlead_lead (x : S8x8x17x128.Idx) : unlead (lead x) = x := by
  funext a
  match a with
  | ⟨0, _⟩ => rfl
  | ⟨1, _⟩ => rfl
  | ⟨2, _⟩ => rfl
  | ⟨3, _⟩ => rfl

theorem squeeze_apply (Y : S1x8x8x17x128.Idx → Elt F .f32) (x : S8x8x17x128.Idx) :
    shapeCast S8x8x17x128 Y shapeCasts_S1x8x8x17x128_S8x8x17x128 x = Y (lead x) := by
  unfold lead
  pointwise

/-- The slot as the copy names it reads what the slice reads. -/
theorem read_slot (s : Fin 2) (f : rcv.view.ty.Contents (Elt F)) (x : S8x8x17x128.Idx) :
    (slotOf rcv s).view.read (Elt F) f x = (rcv.slice (slotRect s) (fun _ => rfl)).view.read (Elt F) f (lead x) :=
  squeeze_apply ((rcv.slice (slotRect s) (fun _ => rfl)).view.read (Elt F) f) x

theorem bigSep_fin2 (Φ : Fin 2 → sProp 𝕄) : bigSep Finset.univ Φ = iprop(Φ 0 ∗ Φ 1) :=
  bigSep_univ_eq_bigSepL [0, 1] (by decide) (by decide) Φ

theorem owns_slot (s : Fin 2) (q : PosShare TreeShare) (Y : S8x8x17x128.Idx → Elt F .f32) :
    (owns (c : Thread nD τ) (slotOf rcv s) q Y : sProp 𝕄)
      = owns (c : Thread nD τ) (rcv.slice (slotRect s) (fun _ => rfl)) q (fun y => Y (unlead y)) := by
  unfold owns
  have hset : (slotOf rcv s).view.set = (rcv.slice (slotRect s) (fun _ => rfl)).view.set := View.set_reshape _ _
  have hiff (f : rcv.view.ty.Contents (Elt F)) : ((slotOf rcv s).view.read (Elt F) f = Y)
      = ((rcv.slice (slotRect s) (fun _ => rfl)).view.read (Elt F) f = fun y => Y (unlead y)) := by
    apply propext
    constructor
    · intro h
      funext y
      rw [← h, read_slot, lead_unlead]
    · intro h
      funext x
      rw [read_slot, h]
      show Y (unlead (lead x)) = Y x
      rw [unlead_lead]
  rw [hset]
  congr 1
  funext f
  exact congrArg (fun P : Prop => (iprop(⌜P⌝ ∗ ((rcv.slice (slotRect s) (fun _ => rfl)).view.loc (c : Thread nD τ)
    ↦[(rcv.slice (slotRect s) (fun _ => rfl)).view.set]{q} f)) : sProp 𝕄)) (hiff f)

theorem slot_disjoint (s s' : Fin 2) (h : s ≠ s') : Disjoint (slotRect s).set (slotRect s').set := by
  rw [Finset.disjoint_left]
  intro x hx hx'
  have e := (Rect.mem_set_unit.mp hx) 0
  have e' := (Rect.mem_set_unit.mp hx') 0
  have hs := s.isLt; have hs' := s'.isLt
  change s.val ≤ (x 0).val ∧ (x 0).val < s.val + 1 at e
  change s'.val ≤ (x 0).val ∧ (x 0).val < s'.val + 1 at e'
  exact h (Fin.ext (by omega))

theorem slot_cover : (Finset.univ : Finset (Fin 2)).biUnion (fun s => (slotRect s).set) = Finset.univ := by
  ext x
  simp only [Finset.mem_biUnion, Finset.mem_univ, true_and, iff_true]
  refine ⟨x 0, Rect.mem_set_unit.mpr fun a => ?_⟩
  match a with
  | ⟨0, _⟩ => exact ⟨le_rfl, Nat.lt_succ_self _⟩
  | ⟨1, _⟩ => exact ⟨Nat.zero_le _, (Nat.zero_add _).symm ▸ (x 1).isLt⟩
  | ⟨2, _⟩ => exact ⟨Nat.zero_le _, (Nat.zero_add _).symm ▸ (x 2).isLt⟩
  | ⟨3, _⟩ => exact ⟨Nat.zero_le _, (Nat.zero_add _).symm ▸ (x 3).isLt⟩
  | ⟨4, _⟩ => exact ⟨Nat.zero_le _, (Nat.zero_add _).symm ▸ (x 4).isLt⟩

/-- The landing buffer held is its two slots held. -/
theorem split_slots : iprop(∃ R, owns (c : Thread nD τ) rcv fullShare R : sProp 𝕄)
    ⊢ iprop((∃ Y, owns (c : Thread nD τ) (slotOf rcv 0) fullShare Y) ∗ (∃ Y, owns (c : Thread nD τ) (slotOf rcv 1) fullShare Y)) := by
  have hslot (s : Fin 2) (R : S2x8x8x17x128.Idx → Elt F .f32) :
      (owns (c : Thread nD τ) (rcv.slice (slotRect s) (fun _ => rfl)) fullShare (fun j => R ((slotRect s).emb j)) : sProp 𝕄)
        = owns (c : Thread nD τ) (slotOf rcv s) fullShare (fun x => R ((slotRect s).emb (lead x))) := by
    rw [owns_slot]; simp only [lead_unlead]
  iintro ⟨%R, H⟩
  ihave H' := (owns_rects (c : Thread nD τ) rcv fullShare slotRect (fun s => (fun _ => rfl)) slot_disjoint slot_cover R) $$ H
  ihave H' := (Entails.of_eq (bigSep_fin2
    (fun s => (owns (c : Thread nD τ) (rcv.slice (slotRect s) (fun _ => rfl)) fullShare (fun j => R ((slotRect s).emb j)) : sProp 𝕄)))) $$ H'
  icases H' with ⟨H0, H1⟩
  isplitl [H0]
  · iexists _
    iapply (Entails.of_eq (hslot 0 R)); iexact H0
  · iexists _
    iapply (Entails.of_eq (hslot 1 R)); iexact H1

/-- The two slots held are the landing buffer held. -/
theorem join_slots : iprop((∃ Y, owns (c : Thread nD τ) (slotOf rcv 0) fullShare Y) ∗ (∃ Y, owns (c : Thread nD τ) (slotOf rcv 1) fullShare Y))
    ⊢ (iprop(∃ R, owns (c : Thread nD τ) rcv fullShare R) : sProp 𝕄) := by
  haveI : ∀ e, Nonempty (Elt F e) := fun e => inferInstance
  iintro ⟨⟨%Y0, H0⟩, ⟨%Y1, H1⟩⟩
  have hpart (s : Fin 2) : (fun j => (fun x : S2x8x8x17x128.Idx => (if (x 0).val = 0 then Y0 else Y1) (ix4 (x 1) (x 2) (x 3) (x 4))) ((slotRect s).emb j))
      = fun y => (if s.val = 0 then Y0 else Y1) (unlead y) := by
    funext y
    have h0 : (y 0).val < 1 := (y 0).isLt
    have e0 : (slotRect s).idx y 0 = s := Fin.ext (by change s.val + 1 * (y 0).val = s.val; omega)
    have e : (ix4 ((slotRect s).idx y 1) ((slotRect s).idx y 2) ((slotRect s).idx y 3) ((slotRect s).idx y 4) : S8x8x17x128.Idx) = unlead y := by
      funext a
      match a with
      | ⟨0, _⟩ => ext; change 0 + 1 * (y 1).val = (y 1).val; omega
      | ⟨1, _⟩ => ext; change 0 + 1 * (y 2).val = (y 2).val; omega
      | ⟨2, _⟩ => ext; change 0 + 1 * (y 3).val = (y 3).val; omega
      | ⟨3, _⟩ => ext; change 0 + 1 * (y 4).val = (y 4).val; omega
    show (if ((slotRect s).idx y 0).val = 0 then Y0 else Y1) (ix4 ((slotRect s).idx y 1) ((slotRect s).idx y 2) ((slotRect s).idx y 3) ((slotRect s).idx y 4)) = _
    rw [e0, e]
  iexists (fun x : S2x8x8x17x128.Idx => (if (x 0).val = 0 then Y0 else Y1) (ix4 (x 1) (x 2) (x 3) (x 4)))
  iapply (owns_of_rects (c : Thread nD τ) rcv fullShare slotRect (fun s => (fun _ => rfl)) slot_disjoint slot_cover _)
  iapply (Entails.of_eq (bigSep_fin2 _).symm)
  isplitl [H0]
  · rw [hpart 0]
    iapply (Entails.of_eq (owns_slot c rcv 0 fullShare Y0)); iexact H0
  · rw [hpart 1]
    iapply (Entails.of_eq (owns_slot c rcv 1 fullShare Y1)); iexact H1

/-- The body's load of slot `s` needs the slot alone. -/
theorem runs_load_slot (s : Fin 2) (Y : S8x8x17x128.Idx → Elt F .f32) {hl : rcv.view.LoadsAt (slotRect s).toLoadRect}
    {k : ((slotRect s).shape.Idx → Elt F .f32) → KProg F PUnit} {Q : PUnit → sProp 𝕄} :
    (owns (c : Thread nD τ) (slotOf rcv s) fullShare Y : sProp 𝕄)
      ⊢ iprop((owns (c : Thread nD τ) (slotOf rcv s) fullShare Y -∗ runs c (k fun y => Y (unlead y)) Q)
          -∗ runs c (.op (.load rcv (slotRect s).toLoadRect hl) k) Q) := by
  rw [owns_slot]
  unfold owns
  iintro ⟨%f, %hf, H⟩ Hk
  rw [← hf]
  iapply (wp_load_rect 𝒱₀ (c : Thread nD τ) none Set.univ (m := rcv) (r := slotRect s) (hl := hl) (S := (rcv.view.slice (slotRect s)).set) (subset_refl _)) $$ H
  iintro H
  iapply Hk
  iexists f
  isplitr; · ipureintro; rfl
  iexact H

end Cert.FlashDec
-- ==== Proof.Contents.lean ====
/-
  What the accumulator, the landing buffer and the result hold, as functions of the memory at launch.

  `accA`: a device's sums over its own keys, once its sixteen points have run. `sent s`: what it sends in step `s` of the exchange, and
  `total` the sums after both steps. `result`: the quotients. Lanes 16 and up of the accumulator's row 16 are never written, so what the
  buffers hold is stated at the written indices only (`Agree`).
-/
module

public import proofs.«01_k».proof.Proof.Slots
public import proofs.«01_k».proof.Proof.Gen.KernelIdeal.Frame

@[expose] public section

set_option maxRecDepth 16384

noncomputable section

namespace Cert.FlashDec

open Cert.KernelIdeal Cert.KernelIdeal.Gen
open Idealize.ShloMosaic
open Idealize.ShloMosaic.TcCoe

variable {F : FTy → Type} [FloatOps F]

variable (m : (ℓ : Loc nD τ sig) → Buf (Elt F) ℓ)

/-- Device `c`'s partner in step `s` of the exchange: the second mesh coordinate with bit `s` flipped. -/
def peer (s : Fin 2) (c : Dev nD) : Dev nD :=
  ⟨c.val ^^^ (if s.val = 0 then 4 else 8), Nat.xor_lt_two_pow (n := 5) c.isLt (by split <;> decide)⟩

theorem peer_peer (s : Fin 2) (c : Dev nD) : peer s (peer s c) = c := by revert s c; decide
theorem peer_ne (c : Dev nD) : peer 0 c ≠ peer 1 c := by revert c; decide

/-- The points of a batch row: key chunk `j` of row `b`. -/
def pt (b : Fin 8) (j : Fin 2) : Fin cfg0.N := ⟨2 * b.val + j.val, by rw [show cfg0.N = 16 from N_0]; omega⟩

theorem coord_row : ∀ t : Fin cfg0.N, (grid0.coords t 0).val = t.val / 2 := by decide +kernel
theorem coord_chunk : ∀ t : Fin cfg0.N, (grid0.coords t 1).val = t.val % 2 := by decide +kernel

/-- Point `t`'s contribution to device `c`'s accumulator. -/
def contrib (c : Dev nD) (t : Fin cfg0.N) : S8x8x17x128.Idx → Elt F .f32 := part (iblk m c 0 t) (iblk m c 1 t) (iblk m c 2 t)

/-- The accumulator of device `c` with the first key chunk of every batch row, and with both. -/
def accFirst (c : Dev nD) (x : S8x8x17x128.Idx) : Elt F .f32 := contrib m c (pt (x 0) 0) x
def accA (c : Dev nD) (x : S8x8x17x128.Idx) : Elt F .f32 := FloatOps.addf (accFirst m c x) (contrib m c (pt (x 0) 1) x)

/-- The accumulators after a step of the exchange, from those before it. -/
def swapped (s : Fin 2) (g : Dev nD → S8x8x17x128.Idx → Elt F .f32) (c : Dev nD) (x : S8x8x17x128.Idx) : Elt F .f32 :=
  FloatOps.addf (g c x) (g (peer s c) x)

/-- What the devices send in step `s` of the exchange. -/
def sent : Fin 2 → Dev nD → S8x8x17x128.Idx → Elt F .f32
  | 0 => accA m
  | 1 => swapped 0 (accA m)

/-- The accumulators after the exchange. -/
def total : Dev nD → S8x8x17x128.Idx → Elt F .f32 := swapped 1 (sent m 1)

/-- Device `c`'s result. -/
def result (c : Dev nD) : S8x8x16x128.Idx → Elt F .f32 := quot (total m c)

/-- Two accumulators agree where the kernel writes. -/
def Agree (f g : S8x8x17x128.Idx → Elt F .f32) : Prop := ∀ x, Written x → f x = g x

/-- What the accumulator of device `c` holds before point `n`. -/
def AccAt (c : Dev nD) (n : Nat) (f : S8x8x17x128.Idx → Elt F .f32) : Prop :=
  ∀ x, Written x → (2 * (x 0).val + 2 ≤ n → f x = accA m c x) ∧ (2 * (x 0).val + 1 = n → f x = accFirst m c x)

theorem accAt_zero (c : Dev nD) (f : S8x8x17x128.Idx → Elt F .f32) : AccAt m c 0 f :=
  fun x _ => ⟨fun h => absurd h (by omega), fun h => absurd h (by omega)⟩

theorem pt_eq {t : Fin cfg0.N} {b : Fin 8} {j : Fin 2} (h : 2 * b.val + j.val = t.val) : pt b j = t := Fin.ext h

theorem accAt_first (c : Dev nD) (t : Fin cfg0.N) (ht : t.val % 2 = 0) (f : S8x8x17x128.Idx → Elt F .f32) (hf : AccAt m c t.val f) :
    AccAt m c (t.val + 1) (heads.foldl (firstUpd (grid0.coords t) (iblk m c 0 t) (iblk m c 1 t) (iblk m c 2 t)) f) := by
  intro x hw
  have e := first_apply (grid0.coords t) (iblk m c 0 t) (iblk m c 1 t) (iblk m c 2 t) f x hw
  rw [coord_row] at e
  refine ⟨fun h => ?_, fun h => ?_⟩
  · rw [e, if_neg (by omega)]
    exact (hf x hw).1 (by omega)
  · have hp : pt (x 0) 0 = t := pt_eq (by change 2 * (x 0).val + 0 = t.val; omega)
    rw [e, if_pos (by omega)]
    unfold accFirst
    rw [hp]
    rfl

theorem accAt_next (c : Dev nD) (t : Fin cfg0.N) (ht : t.val % 2 = 1) (f : S8x8x17x128.Idx → Elt F .f32) (hf : AccAt m c t.val f) :
    AccAt m c (t.val + 1) (heads.foldl (nextUpd (grid0.coords t) (iblk m c 0 t) (iblk m c 1 t) (iblk m c 2 t)) f) := by
  intro x hw
  have e := next_apply (grid0.coords t) (iblk m c 0 t) (iblk m c 1 t) (iblk m c 2 t) f x hw
  rw [coord_row] at e
  refine ⟨fun h => ?_, fun h => absurd h (by omega)⟩
  by_cases hx : (x 0).val = t.val / 2
  · have hp : pt (x 0) 1 = t := pt_eq (by change 2 * (x 0).val + 1 = t.val; omega)
    rw [e, if_pos hx, (hf x hw).2 (by omega)]
    unfold accA
    rw [hp]
    rfl
  · rw [e, if_neg hx]
    exact (hf x hw).1 (by omega)

theorem accAt_all (c : Dev nD) (f : S8x8x17x128.Idx → Elt F .f32) (hf : AccAt m c 16 f) : Agree f (sent m 0 c) :=
  fun x hw => (hf x hw).1 (by have := (x 0).isLt; change (x 0).val < 8 at this; omega)

/-- What the next step sends is what the one before leaves. -/
theorem sent_one : sent m 1 = swapped 0 (sent m 0) := rfl

end Cert.FlashDec
-- ==== Proof.Protocol.lean ====
/-
  The protocol of the exchange.

  Every device has five cells: the runtime's barrier semaphore, and a send and a receive semaphore per step. Each cell has one round. In a
  barrier cell's round the partner of step `s` signals once (duty `s`) and with the signal hands over slot `s` of its landing buffer; the two
  waits' payloads are thus the two slots the device's own copies land in. A receive cell's round is the partner's copy, whose payload is the
  slot holding what the partner sent; a send cell's round gives the accumulator back.
-/
module

public import proofs.«01_k».proof.Proof.Contents

@[expose] public section

set_option maxRecDepth 16384

noncomputable section

namespace Cert.FlashDec

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Where the pipeline's cells' resources lie, and where the exchange's. -/
abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ)

/-! ## The buffers and the cells -/

abbrev accM : Memref sig .tc .vmem S8x8x17x128 .f32 := Memref.whole cc0_scratch0
abbrev rcvM : Memref sig .tc .vmem S2x8x8x17x128 .f32 := Memref.whole cc0_scratch1

abbrev sendSem (s : Fin 2) : DmaSem sig := semOf cc0_scratch2 s
abbrev recvSem (s : Fin 2) : DmaSem sig := semOf cc0_scratch3 s

abbrev barCell (c : Dev nD) : GSem nD τ sig := ((c : Thread nD τ), .reg barS)
abbrev sendCell (s : Fin 2) (c : Dev nD) : GSem nD τ sig := ((c : Thread nD τ), .dma (sendSem s))
abbrev recvCell (s : Fin 2) (c : Dev nD) : GSem nD τ sig := ((c : Thread nD τ), .dma (recvSem s))

/-- The amount a copy of the accumulator credits. -/
def N : ℕ := (accM : Memref sig .tc .vmem S8x8x17x128 .f32).view.dmaCredit
theorem N_pos : 0 < N := View.dmaCredit_pos _ (by decide)
theorem slot_credit (s : Fin 2) : (slotOf rcvM s).view.dmaCredit = N := rfl

theorem dma_ne_bar (q : DmaSem sig) : (SemLoc.dma q : SemLoc sig) ≠ .reg barS := fun h => by cases h
theorem send_ne_recv : ∀ s s' : Fin 2, (SemLoc.dma (sendSem s) : SemLoc sig) ≠ .dma (recvSem s') := by decide
theorem recv_inj : ∀ s s' : Fin 2, (SemLoc.dma (recvSem s) : SemLoc sig) = .dma (recvSem s') → s = s' := by decide
theorem send_inj : ∀ s s' : Fin 2, (SemLoc.dma (sendSem s) : SemLoc sig) = .dma (sendSem s') → s = s' := by decide

/-! ## The schedule -/

/-- Some contents of slot `s` of device `c`'s landing buffer. -/
def slotAny (s : Fin 2) (c : Dev nD) : sProp 𝕄 := iprop(∃ Y, owns (c : Thread nD τ) (slotOf rcvM s) fullShare Y)
/-- Slot `s` of device `c`'s landing buffer holding `g`, and the accumulator holding `g`, where the kernel writes. -/
def slotHas (s : Fin 2) (c : Dev nD) (g : S8x8x17x128.Idx → Elt F .f32) : sProp 𝕄 :=
  iprop(∃ Y, ⌜Agree Y g⌝ ∗ owns (c : Thread nD τ) (slotOf rcvM s) fullShare Y)
def accHas (c : Dev nD) (g : S8x8x17x128.Idx → Elt F .f32) : sProp 𝕄 :=
  iprop(∃ Y, ⌜Agree Y g⌝ ∗ owns (c : Thread nD τ) accM fullShare Y)

instance slotAny_storable (s : Fin 2) (c : Dev nD) : BI.Storable (upEmb : UEmb _ 𝕄) (slotAny (F := F) s c) := by unfold slotAny; infer_instance
instance slotHas_storable (s : Fin 2) (c : Dev nD) (g : S8x8x17x128.Idx → Elt F .f32) : BI.Storable (upEmb : UEmb _ 𝕄) (slotHas (F := F) s c g) := by
  unfold slotHas; infer_instance
instance accHas_storable (c : Dev nD) (g : S8x8x17x128.Idx → Elt F .f32) : BI.Storable (upEmb : UEmb _ 𝕄) (accHas (F := F) c g) := by
  unfold accHas; infer_instance

/-- What a cell's round hands its owner: by the cell's semaphore and the duty. -/
def pay (c : Dev nD) (sm : SemLoc sig) (d : Fin 2) : sProp 𝕄 :=
  if sm = .reg barS then slotAny d (peer d c)
  else if sm = .dma (recvSem 0) then slotHas 0 c (sent m 0 (peer 0 c))
  else if sm = .dma (recvSem 1) then slotHas 1 c (sent m 1 (peer 1 c))
  else if sm = .dma (sendSem 0) then accHas c (sent m 0 c)
  else if sm = .dma (sendSem 1) then accHas c (sent m 1 c)
  else iprop(emp)

abbrev IsCopy (sm : SemLoc sig) : Prop := ∃ s : Fin 2, sm = .dma (sendSem s) ∨ sm = .dma (recvSem s)

/-- One round, round 0: a barrier cell has two duties of one unit, a send or receive cell the duty 0 of the copy's credit. -/
def plan : Rounds.Schedule (GSem nD τ sig) (Fin 2) 𝕄 where
  duties g r := if r = 0 ∧ g.1.2 = .tc ∧ g.2 = .reg barS then Finset.univ else if r = 0 ∧ g.1.2 = .tc ∧ IsCopy g.2 then {0} else ∅
  unitless _ := False
  amount g _ _ := if g.2 = .reg barS then 1 else N
  payload g _ d := pay m g.1.1 g.2 d
  amount_pos g _ _ _ := by
    by_cases h : g.2 = .reg barS
    · rw [if_pos h]; exact Nat.one_pos
    · rw [if_neg h]; exact N_pos

instance plan_payload_storable (g : GSem nD τ sig) (r : ℕ) (d : Fin 2) : BI.Storable (upEmb : UEmb _ 𝕄) ((plan (F := F) m).payload g r d) := by
  show BI.Storable upEmb (pay m g.1.1 g.2 d)
  unfold pay
  (repeat' split) <;> infer_instance

section Plan

variable (s : Fin 2) (c : Dev nD) (d : Fin 2)

theorem duties_bar : (plan (F := F) m).duties (barCell c) 0 = Finset.univ := by
  unfold plan; dsimp only; exact if_pos ⟨rfl, rfl, rfl⟩
theorem duties_copy (q : DmaSem sig) (h : IsCopy (.dma q)) : (plan (F := F) m).duties ((c : Thread nD τ), .dma q) 0 = {0} := by
  unfold plan; dsimp only
  rw [if_neg fun h' => dma_ne_bar q h'.2.2]
  exact if_pos ⟨rfl, rfl, h⟩
theorem duties_send : (plan (F := F) m).duties (sendCell s c) 0 = {0} := duties_copy m c _ ⟨s, .inl rfl⟩
theorem duties_recv : (plan (F := F) m).duties (recvCell s c) 0 = {0} := duties_copy m c _ ⟨s, .inr rfl⟩
theorem duties_later (g : GSem nD τ sig) : ∀ r, 1 ≤ r → (plan (F := F) m).duties g r = ∅ := fun r hr => by
  unfold plan; dsimp only
  rw [if_neg fun h => by omega]
  exact if_neg fun h => by omega

theorem amount_bar : (plan (F := F) m).amount (barCell c) 0 d = 1 := by
  unfold plan; dsimp only; exact if_pos rfl
theorem amount_send : (plan (F := F) m).amount (sendCell s c) 0 d = N := by
  unfold plan; dsimp only; exact if_neg (dma_ne_bar _)
theorem amount_recv : (plan (F := F) m).amount (recvCell s c) 0 d = N := by
  unfold plan; dsimp only; exact if_neg (dma_ne_bar _)

theorem expect_bar : (plan (F := F) m).expect (barCell c) 0 = 2 := by
  unfold Schedule.expect Schedule.amountOf
  rw [duties_bar, Finset.sum_congr rfl fun d _ => amount_bar m c d, Finset.sum_const, Finset.card_univ, Fintype.card_fin, smul_eq_mul]
theorem expect_send : (plan (F := F) m).expect (sendCell s c) 0 = N := by
  unfold Schedule.expect Schedule.amountOf; rw [duties_send, Finset.sum_singleton, amount_send]
theorem expect_recv : (plan (F := F) m).expect (recvCell s c) 0 = N := by
  unfold Schedule.expect Schedule.amountOf; rw [duties_recv, Finset.sum_singleton, amount_recv]

theorem payload_bar : (plan (F := F) m).payload (barCell c) 0 d = slotAny d (peer d c) := by
  show pay m c (.reg barS) d = _
  unfold pay
  exact if_pos rfl
theorem payload_recv : (plan (F := F) m).payload (recvCell s c) 0 d = slotHas s c (sent m s (peer s c)) := by
  show pay m c (.dma (recvSem s)) d = _
  unfold pay
  rw [if_neg (dma_ne_bar _)]
  match s with
  | 0 => exact if_pos rfl
  | 1 => exact (if_neg fun h => absurd (recv_inj 1 0 h) (by decide)).trans (if_pos rfl)
theorem payload_send : (plan (F := F) m).payload (sendCell s c) 0 d = accHas c (sent m s c) := by
  show pay m c (.dma (sendSem s)) d = _
  unfold pay
  rw [if_neg (dma_ne_bar _), if_neg (send_ne_recv _ _), if_neg (send_ne_recv _ _)]
  match s with
  | 0 => exact if_pos rfl
  | 1 => exact (if_neg fun h => absurd (send_inj 1 0 h) (by decide)).trans (if_pos rfl)

theorem rest_bar : bigSep ((plan (F := F) m).duties (barCell c) 0 \ ∅) (fun d => (plan (F := F) m).payload (barCell c) 0 d)
    = iprop(slotAny 0 (peer 0 c) ∗ slotAny 1 (peer 1 c)) := by
  rw [Finset.sdiff_empty, duties_bar, bigSep_fin2, payload_bar, payload_bar]
theorem rest_send : bigSep ((plan (F := F) m).duties (sendCell s c) 0 \ ∅) (fun d => (plan (F := F) m).payload (sendCell s c) 0 d)
    = accHas c (sent m s c) := by
  rw [Finset.sdiff_empty, duties_send, bigSep_singleton, payload_send]
theorem rest_recv : bigSep ((plan (F := F) m).duties (recvCell s c) 0 \ ∅) (fun d => (plan (F := F) m).payload (recvCell s c) 0 d)
    = slotHas s c (sent m s (peer s c)) := by
  rw [Finset.sdiff_empty, duties_recv, bigSep_singleton, payload_recv]

end Plan

/-! ## What a device owes, and the order of the waits -/

/-- What device `c` owes before its second copy, before its first, before its second signal and at launch. -/
def owe1 (c : Dev nD) : CellTallies nD τ sig Unit := 0 + tallyAt (recvCell 1 (peer 1 c)) () N
def owe2 (c : Dev nD) : CellTallies nD τ sig Unit := owe1 c + tallyAt (recvCell 0 (peer 0 c)) () N
def owe3 (c : Dev nD) : CellTallies nD τ sig Unit := owe2 c + tallyAt (barCell (peer 1 c)) () 1
def owe4 (c : Dev nD) : CellTallies nD τ sig Unit := owe3 c + tallyAt (barCell (peer 0 c)) () 1

def L (g : GSem nD τ sig) : Finset Unit := if g.1.2 = .tc then {()} else ∅
/-- Barrier cells lie at level 1, the receive cells of the two steps at 2 and 3, every other cell at 0. -/
def lv (g : GSem nD τ sig) (_ : Unit) : ℕ := if g.2 = .reg barS then 1 else if g.2 = .dma (recvSem 0) then 2 else if g.2 = .dma (recvSem 1) then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv0 (c : Dev nD) (u : Unit) : lv (recvCell 0 c) u = 2 := (if_neg (dma_ne_bar _)).trans (if_pos rfl)
theorem lv_recv1 (c : Dev nD) (u : Unit) : lv (recvCell 1 c) u = 3 :=
  (if_neg (dma_ne_bar _)).trans ((if_neg fun h => absurd (recv_inj 1 0 h) (by decide)).trans (if_pos rfl))
theorem lv_other (c : Dev nD) (q : DmaSem sig) (h : ∀ s, SemLoc.dma q ≠ .dma (recvSem s)) (u : Unit) : lv ((c : Thread nD τ), .dma q) u = 0 :=
  (if_neg (dma_ne_bar _)).trans ((if_neg (h 0)).trans (if_neg (h 1)))

/-- Everything owed is owed to cells above level `k`. -/
def Above (k : ℕ) (O : CellTallies nD τ sig Unit) : Prop := ∀ g u, 0 < O g u → g.1.2 = .tc ∧ k < lv g u

theorem above_zero (k : ℕ) : Above k 0 := fun g u h => absurd h (Nat.lt_irrefl 0)
theorem above_add {k : ℕ} {O : CellTallies nD τ sig Unit} (hO : Above k O) (c : Dev nD) (sm : SemLoc sig) (n : ℕ)
    (h : k < lv ((c : Thread nD τ), sm) ()) : Above k (O + tallyAt ((c : Thread nD τ), sm) () n) := by
  intro g u hg
  rw [Pi.add_apply, Finsupp.add_apply, tallyAt_apply] at hg
  by_cases he : g = ((c : Thread nD τ), sm) ∧ u = ()
  · rw [he.1]; exact ⟨rfl, h⟩
  · rw [if_neg he, Nat.add_zero] at hg
    exact hO g u hg
theorem Above.mono {k k' : ℕ} {O : CellTallies nD τ sig Unit} (hO : Above k O) (h : k' ≤ k) : Above k' O :=
  fun g u hg => ⟨(hO g u hg).1, lt_of_le_of_lt h (hO g u hg).2⟩

theorem above_owe1 (c : Dev nD) : Above 2 (owe1 c) := above_add (above_zero 2) _ _ _ (by rw [lv_recv1]; decide)
theorem above_owe2 (c : Dev nD) : Above 1 (owe2 c) := above_add ((above_owe1 c).mono (by decide)) _ _ _ (by rw [lv_recv0]; decide)
theorem above_owe4 (c : Dev nD) : Above 0 (owe4 c) :=
  above_add (above_add ((above_owe2 c).mono (by decide)) _ _ _ (by rw [lv_bar]; decide)) _ _ _ (by rw [lv_bar]; decide)

/-- A wait on a cell at a level below everything owed is allowed. -/
theorem mayWait (c : Dev nD) (sm : SemLoc sig) (k : ℕ) (hs : lv ((c : Thread nD τ), sm) () ≤ k) {O : CellTallies nD τ sig Unit} (hO : Above k O) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

end Cert.FlashDec
-- ==== Proof.Exchange.lean ====
/-
  What the exchange does: each device starts from its own accumulator and ends with its accumulator after both steps.

  `records` is what every device knows (the cells' invariants and that each is at round 0), `stepHeld s` what one device holds for step `s`
  (its positions at its two cells, the tokens of the two duties it pays and the credit of its receive cell), `barHeld` the same for the barrier.
-/
module

public import proofs.«01_k».proof.Proof.Protocol

@[expose] public section

set_option maxRecDepth 16384

noncomputable section

namespace Cert.FlashDec

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)

variable {F : FTy → Type} [FloatOps F]

local notation "𝕄" => MT nD τ sig Unit (Elt F) ℕ UU ℕ

variable (m : (ℓ : Loc nD τ sig) → Buf (Elt F) ℓ)

/-! ## What the devices hold -/

/-- The five kinds of cell: the barrier, the two steps' send cells and the two steps' receive cells. -/
abbrev kBar : Fin 5 := 0
def kSend : Fin 2 → Fin 5 | 0 => 1 | 1 => 2
def kRecv : Fin 2 → Fin 5 | 0 => 3 | 1 => 4

def kindSem : Fin 5 → SemLoc sig
  | 0 => .reg barS
  | 1 => .dma (sendSem 0)
  | 2 => .dma (sendSem 1)
  | 3 => .dma (recvSem 0)
  | 4 => .dma (recvSem 1)

/-- A device's cell of a kind. -/
def kcell (ck : Dev nD × Fin 5) : GSem nD τ sig := ((ck.1 : Thread nD τ), kindSem ck.2)

theorem kcell_bar (c : Dev nD) : kcell (c, kBar) = barCell c := rfl
theorem kcell_send (s : Fin 2) (c : Dev nD) : kcell (c, kSend s) = sendCell s c := by match s with | 0 => rfl | 1 => rfl
theorem kcell_recv (s : Fin 2) (c : Dev nD) : kcell (c, kRecv s) = recvCell s c := by match s with | 0 => rfl | 1 => rfl

variable (K : Dev nD × Fin 5 → ℕ)

/-- What every device knows: every cell's invariant, and that it has reached round 0. -/
def records : sProp 𝕄 :=
  iprop((bigSep Finset.univ fun ck : Dev nD × Fin 5 => cellInv EX (plan m) (K ck) (kcell ck))
    ∗ bigSep Finset.univ fun ck : Dev nD × Fin 5 => reached EX (kcell ck) 0)

instance records_persistent : BI.Persistent (records m K) := by unfold records; infer_instance

theorem records_inv (ck : Dev nD × Fin 5) : records m K ⊢ cellInv EX (plan m) (K ck) (kcell ck) := by
  unfold records
  iintro ⟨H, -⟩
  have h : (bigSep Finset.univ fun ck : Dev nD × Fin 5 => (cellInv EX (plan m) (K ck) (kcell ck) : sProp 𝕄))
    ⊢ cellInv EX (plan m) (K ck) (kcell ck) := bigSep_elim (Finset.mem_univ ck)
  iapply h; iexact H
theorem records_reached (ck : Dev nD × Fin 5) : records m K ⊢ reached EX (kcell ck) 0 := by
  unfold records
  iintro ⟨-, H⟩
  have h : (bigSep Finset.univ fun ck : Dev nD × Fin 5 => (reached EX (kcell ck) 0 : sProp 𝕄)) ⊢ reached EX (kcell ck) 0 :=
    bigSep_elim (Finset.mem_univ ck)
  iapply h; iexact H

section At
variable (s : Fin 2) (c : Dev nD)
theorem inv_bar : records m K ⊢ cellInv EX (plan m) (K (c, kBar)) (barCell c) := records_inv m K (c, kBar)
theorem inv_send : records m K ⊢ cellInv EX (plan m) (K (c, kSend s)) (sendCell s c) := kcell_send s c ▸ records_inv m K (c, kSend s)
theorem inv_recv : records m K ⊢ cellInv EX (plan m) (K (c, kRecv s)) (recvCell s c) := kcell_recv s c ▸ records_inv m K (c, kRecv s)
theorem reached_bar : records m K ⊢ reached EX (barCell c) 0 := records_reached m K (c, kBar)
theorem reached_send : records m K ⊢ reached EX (sendCell s c) 0 := kcell_send s c ▸ records_reached m K (c, kSend s)
theorem reached_recv : records m K ⊢ reached EX (recvCell s c) 0 := kcell_recv s c ▸ records_reached m K (c, kRecv s)
end At

/-- A device's positions and the tokens of the duties it pays: for the barrier, and for step `s`. -/
def barLin (c : Dev nD) : sProp 𝕄 :=
  iprop(atPos EX (barCell c) 0 ∅ 0 ∗ dutyTok EX (barCell (peer 0 c)) 0 0 ∗ dutyTok EX (barCell (peer 1 c)) 0 1)
def stepLin (s : Fin 2) (c : Dev nD) : sProp 𝕄 :=
  iprop(atPos EX (sendCell s c) 0 ∅ 0 ∗ atPos EX (recvCell s c) 0 ∅ 0 ∗ dutyTok EX (sendCell s c) 0 0 ∗ dutyTok EX (recvCell s (peer s c)) 0 0)

/-! ## One step -/

theorem lv_recv (s : Fin 2) (c : Dev nD) (u : Unit) : lv (recvCell s c) u = 2 + s.val := by
  match s with
  | 0 => exact lv_recv0 c u
  | 1 => exact lv_recv1 c u

/-- The accumulator after a step, from what it held and what landed. -/
theorem agree_swapped (s : Fin 2) (c : Dev nD) (A B : S8x8x17x128.Idx → Elt F .f32) (hA : Agree A (sent m s c)) (hB : Agree B (sent m s (peer s c))) :
    Agree (k0_pay3 (ld A accAll) (fun y => B (unlead y))) (swapped s (sent m s) c) := by
  intro x hw
  rw [accAll_ld]
  refine (pay3_apply A (fun y => B (unlead y)) x).trans ?_
  exact congrArg₂ FloatOps.addf (hA x hw) ((congrArg B (unlead_lead x)).trans (hB x hw))

theorem slot_amount (s : Fin 2) : (slotOf rcvM s).view.amount (.dma (recvSem s)) = N := rfl

/-- What the copy of step `s` hands the two cells' rounds: the accumulator to the sender, the slot as written to the receiver. -/
theorem sent_back (s : Fin 2) (c : Dev nD) (fs : Buf (Elt F) (accM.view.loc (c : Thread nD τ)))
    (hA : Agree (accM.view.read (Elt F) fs) (sent m s c)) :
    (accM.view.loc (c : Thread nD τ) ↦[accM.view.set]{fullShare} fs : sProp 𝕄) ⊢ (plan m).payload (sendCell s c) 0 0 := by
  rw [payload_send]; unfold accHas owns
  iintro H
  iexists (accM.view.read (Elt F) fs)
  isplitr; · ipureintro; exact hA
  iexists fs
  isplitr; · ipureintro; rfl
  iexact H

theorem landed (s : Fin 2) (c : Dev nD) (fs : Buf (Elt F) (accM.view.loc (c : Thread nD τ)))
    (fd : Buf (Elt F) ((slotOf rcvM s).view.loc (peer s c : Thread nD τ))) (hA : Agree (accM.view.read (Elt F) fs) (sent m s c)) :
    ((slotOf rcvM s).view.loc (peer s c : Thread nD τ) ↦[(slotOf rcvM s).view.set]{fullShare}
        ((slotOf rcvM s).view.write (Elt F) fd (accM.view.read (Elt F) fs) Finset.univ) : sProp 𝕄)
      ⊢ (plan m).payload (recvCell s (peer s c)) 0 0 := by
  rw [payload_recv, peer_peer]; unfold slotHas owns
  iintro H
  iexists (accM.view.read (Elt F) fs)
  isplitr; · ipureintro; exact hA
  iexists ((slotOf rcvM s).view.write (Elt F) fd (accM.view.read (Elt F) fs) Finset.univ)
  isplitr
  · ipureintro
    exact View.read_write_univ _ _
  iexact H

/-- The copy of step `s`, issued by device `c`. -/
theorem wp_send (s : Fin 2) (c : Dev nD) {hsc : (slotOf rcvM s : Memref sig (Dev.tc (peer s c) : Thread nD τ).2.kind .vmem S8x8x17x128 .f32).view.ref.isScScratch = false}
    {hsrc : (accM : Memref sig .tc .vmem S8x8x17x128 .f32).view.WordExact} {hdst : (slotOf rcvM s).view.WordExact}
    {hsem : DmaTarget.Typed .vmem (.dma (recvSem s)) (.remote (Dev.tc (peer s c) : Thread nD τ)
      (slotOf rcvM s : Memref sig .tc .vmem S8x8x17x128 .f32) (.dma (sendSem s)) hsc)}
    {Q : PUnit → sProp 𝕄} {k : PUnit → KProg F PUnit} (fs : Buf (Elt F) (accM.view.loc (c : Thread nD τ)))
    (fd : Buf (Elt F) ((slotOf rcvM s).view.loc (peer s c : Thread nD τ))) (hA : Agree (accM.view.read (Elt F) fs) (sent m s c))
    {O₀ : CellTallies nD τ sig Unit} (O : CellTallies nD τ sig Unit) (hO : O₀ = O + tallyAt (recvCell s (peer s c)) () N) (W : Waits sig Unit) :
    iprop(cellInv EX (plan m) (K (c, kSend s)) (sendCell s c) ∗ cellInv EX (plan m) (K (peer s c, kRecv s)) (recvCell s (peer s c))
        ∗ (accM.view.loc (c : Thread nD τ) ↦[accM.view.set]{fullShare} fs)
        ∗ ((slotOf rcvM s).view.loc (peer s c : Thread nD τ) ↦[(slotOf rcvM s).view.set]{fullShare} fd)
        ∗ owes (c : Thread nD τ) O₀ W
        ∗ dutyTok EX (sendCell s c) 0 0 ∗ reached EX (sendCell s c) 0
        ∗ dutyTok EX (recvCell s (peer s c)) 0 0 ∗ reached EX (recvCell s (peer s c)) 0)
      ⊢ iprop(((cred (tallyAt (sendCell s c) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma accM (.remote (Dev.tc (peer s c) : Thread nD τ) (slotOf rcvM s) (.dma (sendSem s)) hsc) (.dma (recvSem s)) hsrc hdst hsem) k) Q) :=
  Rounds.wp_send_pointsTo 𝒱₀ EX (plan m) (c : Thread nD τ) none (κ₁ := K (c, kSend s)) (κ₂ := K (peer s c, kRecv s))
    (r₁ := 0) (r₂ := 0) (d₁ := 0) (d₂ := 0) (fs := fs) (fd := fd)
    (by rw [duties_send]; exact Finset.mem_singleton_self _) (by rw [duties_recv]; exact Finset.mem_singleton_self _)
    () () N (slot_amount s) (amount_send m s c 0) (amount_recv m s (peer s c) 0) O hO (W := W) (sent_back m s c fs hA) (landed m s c fs fd hA)

set_option maxHeartbeats 1000000 in
theorem runs_swapStep (s : Fin 2) (c n : Dev nD) (hn : n = peer s c) {O₀ : CellTallies nD τ sig Unit} (O : CellTallies nD τ sig Unit)
    (hO : O₀ = O + tallyAt (recvCell s (peer s c)) () N) (hA : Above (2 + s.val) O) (W : Waits sig Unit) (P : KProg F PUnit) (Q : PUnit → sProp 𝕄) :
    iprop(records m K ∗ levAts L lv ∗ stepLin s c ∗ cred (tallyAt (recvCell s c) () N) ∗ owes (c : Thread nD τ) O₀ W ∗ accHas c (sent m s c)
        ∗ slotAny s (peer s c))
      ⊢ iprop((((∃ W', owes (c : Thread nD τ) O W') ∗ accHas c (swapped s (sent m s) c) ∗ slotAny s c ∗ semVal (sendCell s c) 0
            ∗ semVal (recvCell s c) 0) -∗ runs c P Q)
          -∗ runs c (swapStep accM (Memref.isWhole_whole _) rcvM cc0_scratch2 cc0_scratch3 s n P) Q) := by
  subst hn
  have hrun : ∀ (P : KProg F PUnit), runs (F := F) c P Q = wp frame (wpE (defs₀ (F := F)) 𝒱₀ (c : Thread nD τ) none) Set.univ P Q := fun _ => rfl
  unfold swapStep
  iintro ⟨#HR, #Hlev, Hl, HcV, HO, Ha, Hs⟩ Hk
  unfold stepLin
  icases Hl with ⟨HaS, HaV, HtS, HtV⟩
  ihave Ha := (Entails.of_eq (accHas.eq_1 c (sent m s c))) $$ Ha
  ihave Hs := (Entails.of_eq (slotAny.eq_1 s (peer s c))) $$ Hs
  icases Ha with ⟨%A, %hAc, Ha⟩
  icases Hs with ⟨%Y, Hs⟩
  unfold owns
  icases Ha with ⟨%fs, %hfs, Ha⟩
  icases Hs with ⟨%fd, %hfd, Hs⟩
  ihave #HIs := (inv_send m K s c) $$ HR
  ihave #HIv := (inv_recv m K s c) $$ HR
  ihave #HIn := (inv_recv m K s (peer s c)) $$ HR
  ihave #HRs := (reached_send m K s c) $$ HR
  ihave #HRn := (reached_recv m K s (peer s c)) $$ HR
  rw [hrun]
  iapply (wp_send m K s c fs fd (hfs ▸ hAc) O hO W) $$ [Ha Hs HO HtS HtV]
  · isplitr; · iexact HIs
    isplitr; · iexact HIn
    isplitl [Ha]; · iexact Ha
    isplitl [Hs]; · iexact Hs
    isplitl [HO]; · iexact HO
    isplitl [HtS]; · iexact HtS
    isplitr; · iexact HRs
    isplitl [HtV]; · iexact HtV
    iexact HRn
  iintro ⟨HcS, HO⟩
  -- the wait for the send: the accumulator back
  iapply (Rounds.wp_wait_rest_token 𝒱₀ EX (plan m) (c : Thread nD τ) none (κ := K (c, kSend s))
      (wpE_waitDma2_eq 𝒱₀ (c : Thread nD τ) none Set.univ) (Set.mem_univ _) () (O := O) (W := W) (R := 0) (m := 0) (T := ∅)
      (by rw [Nat.zero_add, expect_send]; rfl)) $$ [HcS HO HaS]
  · isplitr; · iexact HIs
    isplitl [HcS]; · iexact HcS
    isplitl [HO]; · iexact HO
    isplitr
    · iapply (mayWait c (.dma (sendSem s)) 0 (by rw [lv_other c _ (send_ne_recv s)]) (hA.mono (Nat.zero_le _)))
      iexact Hlev
    iexact HaS
  iintro ⟨HO, HaS, -, Hpay⟩
  ihave Ha := (Entails.of_eq (rest_send m s c)) $$ Hpay
  -- the wait for the copy coming in: the slot with what the partner sent
  iapply (Rounds.wp_wait_rest_token 𝒱₀ EX (plan m) (c : Thread nD τ) none (κ := K (c, kRecv s))
      (wpE_waitDma2_eq 𝒱₀ (c : Thread nD τ) none Set.univ) (Set.mem_univ _) () (O := O) (W := insert (SemLoc.dma (sendSem s), ()) W)
      (R := 0) (m := 0) (T := ∅)
      (by rw [Nat.zero_add, expect_recv]; rfl)) $$ [HcV HO HaV]
  · isplitr; · iexact HIv
    isplitl [HcV]; · iexact HcV
    isplitl [HO]; · iexact HO
    isplitr
    · iapply (mayWait c (.dma (recvSem s)) (2 + s.val) (by rw [lv_recv]) hA)
      iexact Hlev
    iexact HaV
  iintro ⟨HO, HaV, -, Hpay⟩
  ihave Hs := (Entails.of_eq (rest_recv m s c)) $$ Hpay
  imod (Rounds.cell_close EX (plan m) (Set.mem_univ (K (c, kSend s))) (fun h => h) (R := 0 + 1) (duties_later m (sendCell s c))) $$ [HaS] with HzS
  · isplitr; · iexact HIs
    iexact HaS
  imod (Rounds.cell_close EX (plan m) (Set.mem_univ (K (c, kRecv s))) (fun h => h) (R := 0 + 1) (duties_later m (recvCell s c))) $$ [HaV] with HzV
  · isplitr; · iexact HIv
    iexact HaV
  unfold accHas slotHas
  icases Ha with ⟨%A', %hA', Ha⟩
  icases Hs with ⟨%B, %hB, Hs⟩
  rw [← hrun]
  iapply (runs_load c accM A' accAll) $$ Ha
  iintro Ha
  iapply (runs_load_slot c rcvM s B) $$ Hs
  iintro Hs
  iapply (runs_load c accM A' accAll) $$ Ha
  iintro Ha
  iapply (runs_store c accM A' accAll) $$ Ha
  iintro Ha
  rw [accAll_put]
  iapply Hk
  isplitl [HO]; · iexists _; iexact HO
  isplitl [Ha]
  · iexists _
    isplitr [Ha]
    · ipureintro; exact agree_swapped m s c A' B hA' hB
    iexact Ha
  isplitl [Hs]; · unfold slotAny; iexists B; iexact Hs
  isplitl [HzS] <;> iassumption

/-! ## The whole exchange -/

/-- What a device brings to the exchange besides its two buffers. -/
def exchHeld (c : Dev nD) : sProp 𝕄 :=
  iprop(barLin c ∗ stepLin 0 c ∗ stepLin 1 c ∗ cred (tallyAt (barCell c) () 2) ∗ cred (tallyAt (recvCell 0 c) () N)
    ∗ cred (tallyAt (recvCell 1 c) () N))
/-- Its semaphores afterwards: the barrier, and the two own arrays. -/
def barZero (c : Dev nD) : sProp 𝕄 := semVal (barCell c) 0
def ownZero (c : Dev nD) : sProp 𝕄 :=
  iprop(semVal (sendCell 0 c) 0 ∗ semVal (sendCell 1 c) 0 ∗ semVal (recvCell 0 c) 0 ∗ semVal (recvCell 1 c) 0)

/-- A signal to the partner of step `s`, handing over slot `s`. -/
theorem wp_signal (s : Fin 2) (c : Dev nD) {Q : PUnit → sProp 𝕄} {k : PUnit → KProg F PUnit} {O₀ : CellTallies nD τ sig Unit}
    (O : CellTallies nD τ sig Unit) (hO : O₀ = O + tallyAt (barCell (peer s c)) () 1) (W : Waits sig Unit) :
    iprop(records m K ∗ owes (c : Thread nD τ) O₀ W ∗ dutyTok EX (barCell (peer s c)) 0 s ∗ slotAny s c)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc (peer s c) : Thread nD τ) barS (1#32).toNat) k) Q) := by
  iintro ⟨#HR, HO, Ht, Hs⟩ Hk
  ihave #HI := (inv_bar m K (peer s c)) $$ HR
  ihave #Hr := (reached_bar m K (peer s c)) $$ HR
  iapply (Rounds.wp_signal 𝒱₀ EX (plan m) (c : Thread nD τ) none (dst := (peer s c : Thread nD τ)) (κ := K (peer s c, kBar))
      (d := s) (by rw [duties_bar]; exact Finset.mem_univ _) ((amount_bar m (peer s c) s).trans (by decide)) () O hO) $$ [HO Ht Hs]
  · isplitr; · iexact HI
    isplitl [HO]; · iexact HO
    isplitl [Ht]; · iexact Ht
    isplitl [Hs]
    · rw [payload_bar, peer_peer]; iexact Hs
    iexact Hr
  iexact Hk

set_option maxHeartbeats 1000000 in
theorem runs_exchange (c : Dev nD) (n : Fin 2 → Dev nD) (hn : ∀ s, n s = peer s c) (W : Waits sig Unit) (P : KProg F PUnit) (Q : PUnit → sProp 𝕄) :
    iprop(records m K ∗ levAts L lv ∗ exchHeld c ∗ owes (c : Thread nD τ) (owe4 c) W ∗ accHas c (sent m 0 c)
        ∗ (∃ R, owns (c : Thread nD τ) rcvM fullShare R))
      ⊢ iprop((((∃ W', owes (c : Thread nD τ) 0 W') ∗ accHas c (total m c) ∗ (∃ R, owns (c : Thread nD τ) rcvM fullShare R)
            ∗ barZero c ∗ ownZero c) -∗ runs c P Q)
          -∗ runs c (exchange accM (Memref.isWhole_whole _) rcvM cc0_scratch2 cc0_scratch3 n P) Q) := by
  have hrun : ∀ (P : KProg F PUnit), runs (F := F) c P Q = wp frame (wpE (defs₀ (F := F)) 𝒱₀ (c : Thread nD τ) none) Set.univ P Q := fun _ => rfl
  unfold exchange
  simp only [semSignalWord, semWaitWord, Prog.lift, Prog.bind_op, Prog.bind_ret, Prog.pure_eq_ret]
  rw [hn 0]
  rw [hn 1]
  unfold exchHeld barLin
  iintro ⟨#HR, #Hlev, ⟨⟨HaB, Ht0, Ht1⟩, Hl0, Hl1, HcB, Hc0, Hc1⟩, HO, Ha, Hs⟩ Hk
  ihave #HI := (inv_bar m K c) $$ HR
  ihave Hs' := (split_slots c rcvM) $$ Hs
  icases Hs' with ⟨Hs0, Hs1⟩
  rw [hrun]
  iapply (wp_signal m K 0 c (owe3 c) rfl W) $$ [HO Ht0 Hs0]
  · isplitr; · iexact HR
    isplitl [HO]; · iexact HO
    isplitl [Ht0]; · iexact Ht0
    unfold slotAny; iexact Hs0
  iintro HO
  iapply (wp_signal m K 1 c (owe2 c) rfl W) $$ [HO Ht1 Hs1]
  · isplitr; · iexact HR
    isplitl [HO]; · iexact HO
    isplitl [Ht1]; · iexact Ht1
    unfold slotAny; iexact Hs1
  iintro HO
  iapply (Rounds.wp_wait_rest_token 𝒱₀ EX (plan m) (c : Thread nD τ) none (κ := K (c, kBar))
      (wpE_semWait_eq 𝒱₀ (c : Thread nD τ) none Set.univ) (Set.mem_univ _) () (O := owe2 c) (W := W) (R := 0) (m := 0) (T := ∅)
      (by rw [expect_bar]; decide)) $$ [HcB HO HaB]
  · isplitr; · iexact HI
    isplitl [HcB]; · iexact HcB
    isplitl [HO]; · iexact HO
    isplitr
    · iapply (mayWait c (.reg barS) 1 (by rw [lv_bar]) (above_owe2 c))
      iexact Hlev
    iexact HaB
  iintro ⟨HO, HaB, -, Hpay⟩
  ihave Hp := (Entails.of_eq (rest_bar m c)) $$ Hpay
  icases Hp with ⟨Hp0, Hp1⟩
  rw [← hrun]
  iapply (runs_swapStep m K 0 c (peer 0 c) rfl (owe1 c) rfl (above_owe1 c) _) $$ [Hl0 Hc0 HO Ha Hp0]
  · isplitr; · iexact HR
    isplitr; · iexact Hlev
    isplitl [Hl0]; · iexact Hl0
    isplitl [Hc0]; · iexact Hc0
    isplitl [HO]; · iexact HO
    isplitl [Ha] <;> iassumption
  iintro ⟨⟨%W1, HO⟩, Ha, Hs0, HzS0, HzV0⟩
  iapply (runs_swapStep m K 1 c (peer 1 c) rfl 0 rfl (above_zero _) W1) $$ [Hl1 Hc1 HO Ha Hp1]
  · isplitr; · iexact HR
    isplitr; · iexact Hlev
    isplitl [Hl1]; · iexact Hl1
    isplitl [Hc1]; · iexact Hc1
    isplitl [HO]; · iexact HO
    isplitl [Ha]
    · rw [sent_one]; iexact Ha
    iexact Hp1
  iintro ⟨HO, Ha, Hs1, HzS1, HzV1⟩
  rw [hrun]
  imod (Rounds.cell_close EX (plan m) (Set.mem_univ (K (c, kBar))) (fun h => h) (R := 0 + 1) (duties_later m (barCell c))) $$ [HaB] with HzB
  · isplitr; · iexact HI
    iexact HaB
  rw [← hrun]
  iapply Hk
  isplitl [HO]; · iexact HO
  isplitl [Ha]; · unfold total; iexact Ha
  isplitl [Hs0 Hs1]
  · iapply (join_slots c rcvM)
    unfold slotAny
    isplitl [Hs0] <;> iassumption
  isplitl [HzB]; · unfold barZero; iexact HzB
  unfold ownZero
  isplitl [HzS0]; · iexact HzS0
  isplitl [HzS1]; · iexact HzS1
  isplitl [HzV0] <;> iassumption

end Cert.FlashDec
-- ==== Proof.Body.lean ====
/-
  The proof data of the kernel's one call, and its body obligation: at every grid point the body takes what holds before the point to what
  holds after it. Between the points the accumulator holds the sums over the points run so far; the last point exchanges the accumulators and
  writes the result.
-/
module

public import proofs.«01_k».proof.Proof.Exchange

@[expose] public section

set_option maxRecDepth 16384

noncomputable section

namespace Cert.FlashDec

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ UU ℕ

variable (m : (ℓ : Loc nD τ sig) → Buf (Elt F) ℓ)

/-! ## What holds between the points -/

/-- What device `c` brings to the exchange: the records at some names, the levels and its own part. -/
def start (c : Dev nD) : sProp 𝕄 := iprop((∃ K, records m K) ∗ levAts L lv ∗ exchHeld c)

/-- The landing buffer at some contents. -/
def rcvAny (c : Dev nD) : sProp 𝕄 := iprop(∃ R, owns (c : Thread nD τ) rcvM fullShare R)

/-- Before point `n`, and after the last point. -/
def midway (c : Dev nD) (n : Nat) : sProp 𝕄 :=
  iprop(start m c ∗ (∃ X, ⌜AccAt m c n X⌝ ∗ owns (c : Thread nD τ) accM fullShare X) ∗ rcvAny c)
def done (c : Dev nD) : sProp 𝕄 :=
  iprop((∃ X, owns (c : Thread nD τ) accM fullShare X) ∗ rcvAny c ∗ barZero c ∗ ownZero c)

/-- The relational proof data of the call: an input block is left as found, and the last point leaves the result in the output block. -/
def rdats (_ : Fin 1) (c : Dev nD) : RDat τ (Elt F) Unit ℕ UU ℕ cfg0 c where
  A w := m ((cfg0.win w).arr.view.loc (c : Thread nD τ))
  after w t := match w with
    | ⟨0, _⟩ => fun Y X => X = Y
    | ⟨1, _⟩ => fun Y X => X = Y
    | ⟨2, _⟩ => fun Y X => X = Y
    | ⟨3, _⟩ => fun _ X => t.val = 15 → X = result m c
  Φ t := if t.val = 16 then done c else midway m c t.val
  q _ := fullShare
  owed t := if t.val = 16 then 0 else owe4 c

/-! ## The windows' blocks -/

theorem finds_0 (c : Dev nD) (t : Fin cfg0.N) (Y : (cfg0.win 0).block.Idx → Elt F (cfg0.win 0).elt) (h : (rdats m 0 c).Finds 0 t Y) : Y = iblk m c 0 t := by
  haveI : ∀ e, Nonempty (Elt F e) := fun e => inferInstance
  obtain ⟨d, hd⟩ := (rdats m 0 c).finds_in_eq_fetched 0 rfl (fun _ _ _ => rfl) (fun _ _ _ h => h) t Y h
  rw [hd]; rfl
theorem finds_1 (c : Dev nD) (t : Fin cfg0.N) (Y : (cfg0.win 1).block.Idx → Elt F (cfg0.win 1).elt) (h : (rdats m 0 c).Finds 1 t Y) : Y = iblk m c 1 t := by
  haveI : ∀ e, Nonempty (Elt F e) := fun e => inferInstance
  obtain ⟨d, hd⟩ := (rdats m 0 c).finds_in_eq_fetched 1 rfl (fun _ _ _ => rfl) (fun _ _ _ h => h) t Y h
  rw [hd]; rfl
theorem finds_2 (c : Dev nD) (t : Fin cfg0.N) (Y : (cfg0.win 2).block.Idx → Elt F (cfg0.win 2).elt) (h : (rdats m 0 c).Finds 2 t Y) : Y = iblk m c 2 t := by
  haveI : ∀ e, Nonempty (Elt F e) := fun e => inferInstance
  obtain ⟨d, hd⟩ := (rdats m 0 c).finds_in_eq_fetched 2 rfl (fun _ _ _ => rfl) (fun _ _ _ h => h) t Y h
  rw [hd]; rfl

/-! ## The points -/

theorem last_point : ∀ t : Fin cfg0.N, k0_cond33 (grid0.coords t) = 1#1 ↔ t.val = 15 := by decide +kernel

theorem dev1_eq : ∀ d : Dev nD, k0_dev1 d = (peer 0 d).val := by decide +kernel
theorem dev2_eq : ∀ d : Dev nD, k0_dev2 d = (peer 1 d).val := by decide +kernel
theorem partner_eq (i : grid0.Coords) (h33 : k0_cond33 i = 1#1) (d : Dev nD) (s : Fin 2) : partner i h33 d s = peer s d := by
  match s with
  | 0 => exact Fin.ext (dev1_eq d)
  | 1 => exact Fin.ext (dev2_eq d)

/-- Device `c`'s invariant after point `t`, what it owes then and its output block. -/
def after (c : Dev nD) (t : Fin cfg0.N) (out : Memref sig .tc .vmem S8x8x16x128 .f32) : sProp 𝕄 :=
  iprop((if t.val + 1 = 16 then done c else midway m c (t.val + 1))
    ∗ (∃ W, owes (c : Thread nD τ) (if t.val + 1 = 16 then 0 else owe4 c) W)
    ∗ (∃ o, ⌜t.val = 15 → o = result m c⌝ ∗ owns (c : Thread nD τ) out fullShare o))

section Points

variable (c : Dev nD) (t : Fin cfg0.N) (q : Memref sig .tc .vmem S1x8x16x128 .f32) (hq : q.IsWhole) (k : Memref sig .tc .vmem S1x512x16x128 .f32)
  (hk : k.IsWhole) (v : Memref sig .tc .vmem S1x512x16x128 .f32) (hv : v.IsWhole) (out : Memref sig .tc .vmem S8x8x16x128 .f32) (hout : out.IsWhole)
  (o : S8x8x16x128.Idx → Elt F .f32) (W : Waits sig Unit)

abbrev inBlocks : sProp 𝕄 := staged (iblk m c 0 t) (iblk m c 1 t) (iblk m c 2 t) c q k v

abbrev theBody : KProg F PUnit :=
  cc0_body (F := F) (grid0.coords t) q hq k hk v hv out hout accM (Memref.isWhole_whole _) rcvM (Memref.isWhole_whole _) cc0_scratch2 cc0_scratch3

theorem point_first (ht : t.val % 2 = 0) (Q : PUnit → sProp 𝕄) :
    iprop(midway m c t.val ∗ owes (c : Thread nD τ) (owe4 c) W ∗ inBlocks m c t q k v ∗ owns (c : Thread nD τ) out fullShare o
        ∗ ((after m c t out ∗ inBlocks m c t q k v) -∗ Q ⟨⟩))
      ⊢ runs c (theBody t q hq k hk v hv out hout) Q := by
  have h0 : (grid0.coords t 1).val = 0 := by rw [coord_chunk]; exact ht
  unfold theBody
  rw [body_first (h0 := h0)]
  unfold after midway
  iintro ⟨⟨Hst, ⟨%X, %hX, Ha⟩, Hr⟩, HO, Hin, Hout, HQ⟩
  iapply (runs_first (grid0.coords t) (iblk m c 0 t) (iblk m c 1 t) (iblk m c 2 t) c q k v accM X (.ret ⟨⟩) Q) $$ [Hin Ha]
  · isplitl [Hin] <;> iassumption
  iintro ⟨Hin, Ha⟩
  unfold runs
  rw [wp_ret]; imodintro
  iapply HQ
  rw [if_neg (by omega), if_neg (by omega)]
  isplitr [Hin]
  · isplitl [Hst Ha Hr]
    · isplitl [Hst]; · iexact Hst
      isplitl [Ha]
      · iexists _
        isplitr [Ha]
        · ipureintro; exact accAt_first m c t ht X hX
        iexact Ha
      iexact Hr
    isplitl [HO]; · iexists W; iexact HO
    iexists o
    isplitr [Hout]
    · ipureintro; exact fun h => absurd h (by omega)
    iexact Hout
  iexact Hin

theorem point_next (ht : t.val % 2 = 1) (hl : t.val ≠ 15) (Q : PUnit → sProp 𝕄) :
    iprop(midway m c t.val ∗ owes (c : Thread nD τ) (owe4 c) W ∗ inBlocks m c t q k v ∗ owns (c : Thread nD τ) out fullShare o
        ∗ ((after m c t out ∗ inBlocks m c t q k v) -∗ Q ⟨⟩))
      ⊢ runs c (theBody t q hq k hk v hv out hout) Q := by
  have h0 : (grid0.coords t 1).val ≠ 0 := by rw [coord_chunk]; omega
  unfold theBody
  rw [body_next (h0 := h0) (h33 := fun h => hl ((last_point t).mp h))]
  unfold after midway
  iintro ⟨⟨Hst, ⟨%X, %hX, Ha⟩, Hr⟩, HO, Hin, Hout, HQ⟩
  iapply (runs_next (grid0.coords t) (iblk m c 0 t) (iblk m c 1 t) (iblk m c 2 t) c q k v accM X (.ret ⟨⟩) Q) $$ [Hin Ha]
  · isplitl [Hin] <;> iassumption
  iintro ⟨Hin, Ha⟩
  unfold runs
  rw [wp_ret]; imodintro
  iapply HQ
  rw [if_neg (by omega), if_neg (by omega)]
  isplitr [Hin]
  · isplitl [Hst Ha Hr]
    · isplitl [Hst]; · iexact Hst
      isplitl [Ha]
      · iexists _
        isplitr [Ha]
        · ipureintro; exact accAt_next m c t ht X hX
        iexact Ha
      iexact Hr
    isplitl [HO]; · iexists W; iexact HO
    iexists o
    isplitr [Hout]
    · ipureintro; exact fun h => absurd h hl
    iexact Hout
  iexact Hin

theorem point_last (hl : t.val = 15) (Q : PUnit → sProp 𝕄) :
    iprop(midway m c t.val ∗ owes (c : Thread nD τ) (owe4 c) W ∗ inBlocks m c t q k v ∗ owns (c : Thread nD τ) out fullShare o
        ∗ ((after m c t out ∗ inBlocks m c t q k v) -∗ Q ⟨⟩))
      ⊢ runs c (theBody t q hq k hk v hv out hout) Q := by
  have h0 : (grid0.coords t 1).val ≠ 0 := by rw [coord_chunk]; omega
  have hrun : ∀ (P : KProg F PUnit), runs (F := F) c P Q = wp frame (wpE (defs₀ (F := F)) 𝒱₀ (c : Thread nD τ) none) Set.univ P Q := fun _ => rfl
  unfold theBody
  rw [body_last (h0 := h0) (h33 := (last_point t).mpr hl)]
  unfold midway after start rcvAny
  iintro ⟨⟨⟨⟨%K, #HR⟩, #Hlev, Hx⟩, ⟨%X, %hX, Ha⟩, Hr⟩, HO, Hin, Hout, HQ⟩
  iapply (runs_next (grid0.coords t) (iblk m c 0 t) (iblk m c 1 t) (iblk m c 2 t) c q k v accM X _ Q) $$ [Hin Ha]
  · isplitl [Hin] <;> iassumption
  iintro ⟨Hin, Ha⟩
  rw [hrun, wp_deviceId, ← hrun]
  have hA : Agree (heads.foldl (nextUpd (grid0.coords t) (iblk m c 0 t) (iblk m c 1 t) (iblk m c 2 t)) X) (sent m 0 c) := by
    have h := accAt_next m c t (by omega) X hX
    rw [hl] at h
    exact accAt_all m c _ h
  iapply (runs_exchange m K c (partner (grid0.coords t) ((last_point t).mpr hl) c) (partner_eq _ _ c) W) $$ [Hx HO Ha Hr]
  · isplitr; · iexact HR
    isplitr; · iexact Hlev
    isplitl [Hx]; · iexact Hx
    isplitl [HO]; · iexact HO
    isplitl [Ha]
    · unfold accHas; iexists _
      isplitr [Ha]
      · ipureintro; exact hA
      iexact Ha
    iexact Hr
  iintro ⟨HO, Ha, Hr, HzB, HzO⟩
  unfold accHas
  icases Ha with ⟨%A, %hAt, Ha⟩
  iapply (runs_div c accM out A o (.ret ⟨⟩) Q) $$ [Ha Hout]
  · isplitl [Ha] <;> iassumption
  iintro ⟨Ha, Hout⟩
  rw [hrun, wp_ret]; imodintro
  iapply HQ
  rw [if_pos (by omega), if_pos (by omega)]
  isplitr [Hin]
  · isplitl [Ha Hr HzB HzO]
    · unfold done rcvAny
      isplitl [Ha]; · iexists A; iexact Ha
      isplitl [Hr]; · iexact Hr
      isplitl [HzB] <;> iassumption
    isplitl [HO]; · iexact HO
    iexists _
    isplitr [Hout]
    · ipureintro
      intro _
      exact (div_apply A o).trans (quot_congr hAt)
    iexact Hout
  iexact Hin

/-- The body at any point. -/
theorem point (Q : PUnit → sProp 𝕄) :
    iprop(midway m c t.val ∗ owes (c : Thread nD τ) (owe4 c) W ∗ inBlocks m c t q k v ∗ owns (c : Thread nD τ) out fullShare o
        ∗ ((after m c t out ∗ inBlocks m c t q k v) -∗ Q ⟨⟩))
      ⊢ runs c (theBody t q hq k hk v hv out hout) Q := by
  by_cases ht : t.val % 2 = 0
  · exact point_first m c t q hq k hk v hv out hout o W ht Q
  · by_cases hl : t.val = 15
    · exact point_last m c t q hq k hk v hv out hout o W hl Q
    · exact point_next m c t q hq k hk v hv out hout o W (by omega) hl Q

end Points

/-! ## The obligation -/

set_option maxHeartbeats 1000000 in
theorem body_obligation (c : Dev nD) : (rdats (F := F) m 0 c).BodyObligation (defs₀ (F := F)) 𝒱₀ () Set.univ := by
  intro t Y hY
  have e0 := finds_0 m c t (Y 0) (hY 0)
  have e1 := finds_1 m c t (Y 1) (hY 1)
  have e2 := finds_2 m c t (Y 2) (hY 2)
  have ht : t.val < 16 := t.isLt
  have hΦ : (rdats m 0 c).Φ t.castSucc = midway m c t.val := if_neg (by change ¬ t.val = 16; omega)
  have hO : (rdats m 0 c).owed t.castSucc = owe4 c := if_neg (by change ¬ t.val = 16; omega)
  have hΦ' : (rdats m 0 c).Φ t.succ = if t.val + 1 = 16 then done c else midway m c (t.val + 1) := rfl
  have hO' : (rdats m 0 c).owed t.succ = if t.val + 1 = 16 then 0 else owe4 c := rfl
  rw [bigSep_W0, bigSep_W0, hΦ, hΦ', e0, e1, e2]
  unfold RDat.owesAt Pipeline.owesWithin
  rw [hO, hO']
  iintro ⟨Hm, ⟨%W, %hW, HO⟩, Hq, Hk, Hv, Hout⟩
  iapply (point m c t (st0_0 t) _ (st0_1 t) _ (st0_2 t) _ (st0_3 t) _ (Y 3) W _)
  isplitl [Hm]; · iexact Hm
  isplitl [HO]; · iexact HO
  isplitl [Hq Hk Hv]
  · unfold inBlocks staged
    isplitl [Hq]; · iexact Hq
    isplitl [Hk] <;> iassumption
  isplitl [Hout]; · iexact Hout
  unfold after inBlocks staged
  iintro ⟨⟨Hm, ⟨%W', HO⟩, ⟨%o, %ho, Hout⟩⟩, Hq, Hk, Hv⟩
  isplitl [Hm]; · iexact Hm
  isplitl [HO]
  · iexists W'
    isplitr [HO]
    · ipureintro; exact fun _ _ => Or.inl trivial
    iexact HO
  isplitl [Hq]
  · iexists _
    isplitr [Hq]
    · ipureintro; exact rfl
    iexact Hq
  isplitl [Hk]
  · iexists _
    isplitr [Hk]
    · ipureintro; exact rfl
    iexact Hk
  isplitl [Hv]
  · iexists _
    isplitr [Hv]
    · ipureintro; exact rfl
    iexact Hv
  iexists o
  isplitr [Hout]
  · ipureintro; exact ho
  iexact Hout

end Cert.FlashDec
-- ==== Proof.Deal.lean ====
/-
  The launch of the exchange: the cells' resources, allocated together and dealt to the devices.

  At launch every device gets its five cells' resources and the tokens of its own cells' duties. The tokens then go to the devices that pay
  the duties (`toks_around`), and the invariants' names become known to every device (`regroup`).
-/
module

public import proofs.«01_k».proof.Proof.Body

@[expose] public section

set_option maxRecDepth 16384

noncomputable section

namespace Cert.FlashDec

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the tokens -/

/-- The kernel's own semaphores: every kind but the barrier. -/
def osem (k : Fin 4) : SemLoc sig := kindSem k.succ

theorem ownSemFacts : Pipeline.OwnSemFacts cfg0.spec osem := by decide

theorem kindSem_inj : ∀ k k' : Fin 5, kindSem k = kindSem k' → k = k' := by decide

theorem kcell_injective : Function.Injective (kcell : Dev nD × Fin 5 → GSem nD τ sig) := by
  rintro ⟨c, k⟩ ⟨c', k'⟩ h
  exact Prod.ext (congrArg (fun g : GSem nD τ sig => g.1.1) h) (kindSem_inj k k' (congrArg Prod.snd h))

/-- The six duties of a device's cells: the kind of cell and the duty's number. -/
def tokKind : Fin 6 → Fin 5 := ![0, 0, 1, 2, 3, 4]
def tokDuty : Fin 6 → Fin 2 := ![0, 1, 0, 0, 0, 0]
theorem tok_inj : ∀ j j' : Fin 6, tokKind j = tokKind j' → tokDuty j = tokDuty j' → j = j' := by decide

def tokOf (cj : Dev nD × Fin 6) : GSem nD τ sig × ℕ × Fin 2 := (kcell (cj.1, tokKind cj.2), 0, tokDuty cj.2)

theorem tokOf_injective : Function.Injective tokOf := by
  rintro ⟨c, j⟩ ⟨c', j'⟩ h
  have hk := kcell_injective (congrArg (fun x : GSem nD τ sig × ℕ × Fin 2 => x.1) h)
  exact Prod.ext (congrArg (fun x : Dev nD × Fin 5 => x.1) hk) (tok_inj j j' (congrArg (fun x : Dev nD × Fin 5 => x.2) hk) (congrArg (fun x : GSem nD τ sig × ℕ × Fin 2 => x.2.2) h))

def exCells : Finset (GSem nD τ sig) := Finset.univ.map ⟨kcell, kcell_injective⟩
def exToks : Finset (GSem nD τ sig × ℕ × Fin 2) := Finset.univ.map ⟨tokOf, tokOf_injective⟩

/-- The ghost state at launch: the pipeline's cells and the exchange's. -/
def u₀ : UU := (initOf (Pipeline.cells cfgs cellOf_inj) (Pipeline.launchToks cfgs cellOf_inj), initOf exCells exToks)

abbrev tok (cj : Dev nD × Fin 6) : sProp 𝕄 := dutyTok EX (kcell (cj.1, tokKind cj.2)) 0 (tokDuty cj.2)

/-- A device's share at launch: its cells' states, positions and marks, and its cells' tokens. -/
def G (c : Dev nD) : sProp 𝕄 :=
  iprop((bigSep Finset.univ fun k : Fin 5 => roundState EX (plan m) (kcell (c, k)) 0)
    ∗ ((bigSep Finset.univ fun k : Fin 5 => atPos EX (kcell (c, k)) 0 ∅ 0) ∗ bigSep Finset.univ fun k : Fin 5 => reached EX (kcell (c, k)) 0)
    ∗ bigSep Finset.univ fun j : Fin 6 => tok (c, j))

/-- A device's share once dealt. -/
def G' (c : Dev nD) : sProp 𝕄 := iprop((∃ K, records m K) ∗ barLin c ∗ stepLin 0 c ∗ stepLin 1 c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem fund_exchange : BI.own (EX (F := F) (initOf exCells exToks)) ⊢ (|==> bigSep Finset.univ (G m) : sProp 𝕄) := by
  have hC (Φ : GSem nD τ sig → sProp 𝕄) :
      bigSep exCells Φ = bigSep Finset.univ fun c : Dev nD => bigSep Finset.univ fun k : Fin 5 => Φ (kcell (c, k)) := by
    unfold exCells; rw [bigSep_map, bigSep_univ_prod]; rfl
  have hT : bigSep exToks (fun x => (dutyTok EX x.1 x.2.1 x.2.2 : sProp 𝕄))
      = bigSep Finset.univ fun c : Dev nD => bigSep Finset.univ fun j : Fin 6 => tok (c, j) := by
    unfold exToks; rw [bigSep_map, bigSep_univ_prod]; rfl
  iintro H
  imod (Rounds.fund EX (plan m) exCells exToks) $$ H with ⟨Hst, Hr, Hat, Htok⟩
  imodintro
  ihave Hst := (Entails.of_eq (hC fun g => roundState EX (plan m) g 0)) $$ Hst
  ihave Hat := (Entails.of_eq (hC fun g => atPos EX g 0 ∅ 0)) $$ Hat
  ihave Hr := (Entails.of_eq (hC fun g => reached EX g 0)) $$ Hr
  ihave Htok := (Entails.of_eq hT) $$ Htok
  unfold G
  simp only [bigSep_sep']
  isplitl [Hst]; · iexact Hst
  isplitl [Hat Hr]
  · isplitl [Hat] <;> iassumption
  iexact Htok

/-! ## The semaphores -/

theorem ownSems0_eq (c : Dev nD) :
    (Pipeline.ownSems0 (Ix := Unit) (Name := ℕ) (U := UU) (Lvl := ℕ) (Val := Elt F) (τ := τ) osem c : sProp 𝕄) = ownZero c := by
  rw [Pipeline.ownSems0_eq_of_list c osem [0, 1, 2, 3] (by decide) (by decide)]; rfl
theorem unscopedSems0_eq (c : Dev nD) : (unscopedSems0 c : sProp 𝕄) = barZero c := by
  unfold unscopedSems0; rw [bigSep_eq_bigSepL_of_eq [SemLoc.reg barS] (by decide) (by decide)]; rfl

theorem sems0_all (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  unfold ownZero barZero
  iintro ⟨⟨H1, H2, H3, H4⟩, H0⟩
  isplitl [H0]; · iexact H0
  isplitl [H1]; · iexact H1
  isplitl [H2]; · iexact H2
  isplitl [H3]; · iexact H3
  iexact H4

/-! ## The allocation -/

/-- A device's cells become invariants. -/
theorem alloc_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 5 => iprop(∃ κ : ℕ, cellInv EX (plan m) κ (kcell (c, k))))
          ∗ ((bigSep Finset.univ fun k : Fin 5 => atPos EX (kcell (c, k)) 0 ∅ 0) ∗ bigSep Finset.univ fun k : Fin 5 => reached EX (kcell (c, k)) 0)
          ∗ bigSep Finset.univ fun j : Fin 6 => tok (c, j)) := by
  have hinv : iprop((bigSep Finset.univ fun k : Fin 5 => semVal (kcell (c, k)) 0)
        ∗ bigSep Finset.univ fun k : Fin 5 => roundState EX (plan m) (kcell (c, k)) 0)
      ⊢ (|={Set.univ}=> bigSep Finset.univ fun k : Fin 5 => iprop(∃ κ : ℕ, cellInv EX (plan m) κ (kcell (c, k))) : sProp 𝕄) := by
    rw [← bigSep_sep']
    exact (bigSep_mono fun k _ => (Rounds.body_intro EX (plan m) (kcell (c, k))).trans inv_alloc).trans (bigSep_fupd _ _)
  unfold G
  iintro ⟨Ho, Hu, Hst, Hrest⟩
  ihave Hv := (sems0_all (F := F) c) $$ [Ho Hu]
  · isplitl [Ho] <;> iassumption
  imod hinv $$ [Hv Hst] with Hinv
  · isplitl [Hv] <;> iassumption
  imodintro
  isplitl [Hinv] <;> iassumption

/-! ## The deal -/

/-- Who pays a duty of device `c`'s cells: the partner of its step, or the device itself. -/
def payer : Fin 6 → Dev nD → Dev nD := ![peer 0, peer 1, id, id, peer 0, peer 1]
theorem payer_payer : ∀ (j : Fin 6) (c : Dev nD), payer j (payer j c) = c := by decide
def dealt : Dev nD × Fin 6 ≃ Dev nD × Fin 6 where
  toFun cj := (payer cj.2 cj.1, cj.2)
  invFun cj := (payer cj.2 cj.1, cj.2)
  left_inv cj := Prod.ext (payer_payer cj.2 cj.1) rfl
  right_inv cj := Prod.ext (payer_payer cj.2 cj.1) rfl

theorem toks_around : (bigSep Finset.univ fun c : Dev nD => bigSep Finset.univ fun j : Fin 6 => (tok (c, j) : sProp 𝕄))
    = bigSep Finset.univ fun c : Dev nD => bigSep Finset.univ fun j : Fin 6 => tok (payer j c, j) := by
  rw [← bigSep_univ_prod (fun cj : Dev nD × Fin 6 => (tok cj : sProp 𝕄)),
    ← bigSep_univ_prod (fun cj : Dev nD × Fin 6 => (tok (payer cj.2 cj.1, cj.2) : sProp 𝕄)),
    bigSep_univ_equiv dealt (fun cj : Dev nD × Fin 6 => (tok cj : sProp 𝕄))]
  rfl

/-- A device's positions and the tokens it pays with, by barrier and step. -/
theorem lin_intro (c : Dev nD) :
    iprop((bigSep Finset.univ fun k : Fin 5 => (atPos EX (kcell (c, k)) 0 ∅ 0 : sProp 𝕄)) ∗ bigSep Finset.univ fun j : Fin 6 => tok (payer j c, j))
      ⊢ iprop(barLin c ∗ stepLin 0 c ∗ stepLin 1 c) := by
  rw [bigSep_fin5, bigSep_fin6]
  unfold barLin stepLin
  iintro ⟨⟨HB, HS0, HS1, HV0, HV1⟩, Ht0, Ht1, Hs0, Hs1, Hv0, Hv1⟩
  isplitl [HB Ht0 Ht1]
  · isplitl [HB]; · iexact HB
    isplitl [Ht0]; · iexact Ht0
    iexact Ht1
  isplitl [HS0 HV0 Hs0 Hv0]
  · isplitl [HS0]; · iexact HS0
    isplitl [HV0]; · iexact HV0
    isplitl [Hs0]; · iexact Hs0
    iexact Hv0
  isplitl [HS1]; · iexact HS1
  isplitl [HV1]; · iexact HV1
  isplitl [Hs1]; · iexact Hs1
  iexact Hv1

theorem dealt_intro (K : Dev nD × Fin 5 → ℕ) (c : Dev nD) :
    iprop(records m K ∗ ((bigSep Finset.univ fun k : Fin 5 => (atPos EX (kcell (c, k)) 0 ∅ 0 : sProp 𝕄))
        ∗ bigSep Finset.univ fun j : Fin 6 => tok (payer j c, j))) ⊢ G' m c := by
  unfold G'
  iintro ⟨HR, H⟩
  isplitl [HR]; · iexists K; iexact HR
  iapply (lin_intro c)
  iexact H

theorem regroup :
    (bigSep Finset.univ fun c : Dev nD => iprop((bigSep Finset.univ fun k : Fin 5 => iprop(∃ κ : ℕ, cellInv EX (plan m) κ (kcell (c, k))))
          ∗ ((bigSep Finset.univ fun k : Fin 5 => atPos EX (kcell (c, k)) 0 ∅ 0) ∗ bigSep Finset.univ fun k : Fin 5 => reached EX (kcell (c, k)) 0)
          ∗ bigSep Finset.univ fun j : Fin 6 => tok (c, j)) : sProp 𝕄)
      ⊢ bigSep Finset.univ (G' m) := by
  rw [bigSep_sep', bigSep_sep', bigSep_sep', toks_around,
    ← bigSep_univ_prod (fun ck : Dev nD × Fin 5 => iprop(∃ κ : ℕ, cellInv EX (plan m) κ (kcell ck))),
    ← bigSep_univ_prod (fun ck : Dev nD × Fin 5 => (reached EX (kcell ck) 0 : sProp 𝕄))]
  iintro ⟨HI, ⟨Hat, #HR⟩, Htok⟩
  ihave HK := (BI.bigSep_exists_pi Finset.univ (fun (ck : Dev nD × Fin 5) (κ : ℕ) => (cellInv EX (plan m) κ (kcell ck) : sProp 𝕄))) $$ HI
  icases HK with ⟨%K, #HI⟩
  have hall : iprop(records m K ∗ bigSep Finset.univ fun c : Dev nD => iprop((bigSep Finset.univ fun k : Fin 5 => (atPos EX (kcell (c, k)) 0 ∅ 0 : sProp 𝕄))
        ∗ bigSep Finset.univ fun j : Fin 6 => tok (payer j c, j))) ⊢ bigSep Finset.univ (G' m) :=
    (sep_mono_left (BI.bigSep_of_persistent Finset.univ (records m K))).trans
      (by rw [← bigSep_sep']; exact bigSep_mono fun c _ => dealt_intro m K c)
  iapply hall
  isplitr
  · unfold records
    isplitr
    · iexact HI
    iexact HR
  rw [bigSep_sep']
  isplitl [Hat] <;> iassumption

/-- The whole machine's step at launch. -/
theorem deal : (bigSep Finset.univ fun c => iprop(Pipeline.ownSems0 (Ix := Unit) (Name := ℕ) (U := UU) (Lvl := ℕ) (Val := Elt F) (τ := τ) osem c
      ∗ unscopedSems0 c ∗ G m c) : sProp 𝕄) ⊢ |={Set.univ}=> bigSep Finset.univ (G' m) :=
  ((bigSep_mono fun c _ => alloc_cells m c).trans (bigSep_fupd _ _)).trans (BI.fupd_mono (regroup m))

/-! ## The launch credit -/

theorem creds (c : Dev nD) : (Pipeline.launchCred owe4 c : sProp 𝕄)
    ⊢ iprop(cred (tallyAt (barCell c) () 2) ∗ cred (tallyAt (recvCell 0 c) () N) ∗ cred (tallyAt (recvCell 1 c) () N)) := by
  have e1 : (Pipeline.launchCred owe1 c : sProp 𝕄) = Pipeline.launchCred (fun d => tallyAt (recvCell 1 (peer 1 d)) () N) c :=
    congrArg (fun O => (Pipeline.launchCred O c : sProp 𝕄)) (funext fun d => zero_add _)
  have e4 : (Pipeline.launchCred owe4 c : sProp 𝕄) = iprop(Pipeline.launchCred owe3 c ∗ Pipeline.launchCred (fun d => tallyAt (barCell (peer 0 d)) () 1) c) :=
    Pipeline.launchCred_add owe3 (fun d => tallyAt (barCell (peer 0 d)) () 1) c
  have e3 : (Pipeline.launchCred owe3 c : sProp 𝕄) = iprop(Pipeline.launchCred owe2 c ∗ Pipeline.launchCred (fun d => tallyAt (barCell (peer 1 d)) () 1) c) :=
    Pipeline.launchCred_add owe2 (fun d => tallyAt (barCell (peer 1 d)) () 1) c
  have e2 : (Pipeline.launchCred owe2 c : sProp 𝕄) = iprop(Pipeline.launchCred owe1 c ∗ Pipeline.launchCred (fun d => tallyAt (recvCell 0 (peer 0 d)) () N) c) :=
    Pipeline.launchCred_add owe1 (fun d => tallyAt (recvCell 0 (peer 0 d)) () N) c
  have ebar : (tallyAt (barCell c) () 2 : CellTallies nD τ sig Unit) = tallyAt (barCell c) () 1 + tallyAt (barCell c) () 1 := by
    unfold tallyAt; rw [← tallyOn_add, ← Finsupp.single_add]
  rw [e4, e3, e2, e1, ebar]
  iintro ⟨⟨⟨H1, H0⟩, HB1⟩, HB0⟩
  ihave H1 := (Pipeline.launchCred_tallyAt (.dma (recvSem 1)) (peer 1) (peer 1) (peer_peer 1) (peer_peer 1) () N c) $$ H1
  ihave H0 := (Pipeline.launchCred_tallyAt (.dma (recvSem 0)) (peer 0) (peer 0) (peer_peer 0) (peer_peer 0) () N c) $$ H0
  ihave HB1 := (Pipeline.launchCred_tallyAt (.reg barS) (peer 1) (peer 1) (peer_peer 1) (peer_peer 1) () 1 c) $$ HB1
  ihave HB0 := (Pipeline.launchCred_tallyAt (.reg barS) (peer 0) (peer 0) (peer_peer 0) (peer_peer 0) () 1 c) $$ HB0
  isplitl [HB0 HB1]
  · iapply (cred_add (tallyAt (barCell c) () 1) (tallyAt (barCell c) () 1)).2
    isplitl [HB0] <;> iassumption
  isplitl [H0] <;> iassumption

end Cert.FlashDec
-- ==== Proof.Run.lean ====
/-
  The run of the kernel: from any memory with zero counters every weakly fair execution on the whole mesh terminates, and every final state has
  each device's output array at `result`, its argument arrays unchanged and every semaphore at zero.
-/
module

public import proofs.«01_k».proof.Proof.Deal
public import Idealize.ShloMosaic.Lib.Pipeline.ArrRel
public import Idealize.ShloMosaic.Lib.Pipeline.CollectiveSegs
public import Idealize.ShloMosaic.Lib.Quiescent

@[expose] public section

set_option maxRecDepth 16384

noncomputable section

namespace Cert.FlashDec

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ UU ℕ

variable (m : (ℓ : Loc nD τ sig) → Buf (Elt F) ℓ) (ρ : Dev nD → PrngReg)

/-! ## The scratch buffers -/

/-- A whole scratch buffer at some contents, as points-to and as ownership. -/
theorem acc_owns (c : Dev nD) : (iprop(∃ f : Buf (Elt F) ((c : Thread nD τ).loc cc0_scratch0), ((c : Thread nD τ).loc cc0_scratch0) ↦{fullShare} f) : sProp 𝕄)
    ⊢ iprop(∃ X, owns (c : Thread nD τ) accM fullShare X) := by
  unfold owns accM
  simp only [Memref.view_whole, View.read_whole, View.set_whole]
  iintro ⟨%f, H⟩
  iexists f; iexists f
  isplitr [H]; · ipureintro; rfl
  iexact H
theorem rcv_owns (c : Dev nD) : (iprop(∃ f : Buf (Elt F) ((c : Thread nD τ).loc cc0_scratch1), ((c : Thread nD τ).loc cc0_scratch1) ↦{fullShare} f) : sProp 𝕄)
    ⊢ rcvAny c := by
  unfold rcvAny owns rcvM
  simp only [Memref.view_whole, View.read_whole, View.set_whole]
  iintro ⟨%f, H⟩
  iexists f; iexists f
  isplitr [H]; · ipureintro; rfl
  iexact H
theorem owns_acc (c : Dev nD) : iprop(∃ X, owns (c : Thread nD τ) accM fullShare X)
    ⊢ (iprop(∃ f : Buf (Elt F) ((c : Thread nD τ).loc cc0_scratch0), ((c : Thread nD τ).loc cc0_scratch0) ↦{fullShare} f) : sProp 𝕄) := by
  unfold owns accM
  simp only [Memref.view_whole, View.read_whole, View.set_whole]
  iintro ⟨%X, %f, %hf, H⟩
  iexists f; iexact H
theorem owns_rcv (c : Dev nD) : rcvAny c
    ⊢ (iprop(∃ f : Buf (Elt F) ((c : Thread nD τ).loc cc0_scratch1), ((c : Thread nD τ).loc cc0_scratch1) ↦{fullShare} f) : sProp 𝕄) := by
  unfold rcvAny owns rcvM
  simp only [Memref.view_whole, View.read_whole, View.set_whole]
  iintro ⟨%X, %f, %hf, H⟩
  iexists f; iexact H

/-! ## The side conditions of the launch -/

theorem start_intro (c : Dev nD) :
    iprop(Pipeline.unscopedRestP Pipeline.Prefetch.none cfg0.spec c (fun b => m ((c : Thread nD τ).loc b)) ∗ levAts L lv
        ∗ Pipeline.launchCred owe4 c ∗ prngReg c (ρ c) ∗ G' m c)
      ⊢ |={Set.univ}=> iprop(start m c ∗ emp) := by
  unfold start exchHeld G'
  iintro ⟨-, Hlev, Hcr, -, HR, HB, H0, H1⟩
  ihave Hc := (creds (F := F) c) $$ Hcr
  imodintro
  isplitl
  · isplitl [HR]; · iexact HR
    isplitl [Hlev]; · iexact Hlev
    isplitl [HB]; · iexact HB
    isplitl [H0]; · iexact H0
    isplitl [H1]; · iexact H1
    iexact Hc
  · iempintro

theorem first_intro (c : Dev nD) :
    iprop(start m c ∗ Pipeline.prefHeld Pipeline.Prefetch.none c (fun _ => fullShare.right) (fun k => k.elim0) ∗ Pipeline.scopedRest cfg0.spec c)
      ⊢ (rdats m 0 c).Φ 0 := by
  rw [show (rdats m 0 c).Φ 0 = midway m c 0 from rfl, scopedRest0_eq]
  unfold midway
  iintro ⟨Hs, -, Ha, Hr⟩
  ihave Ha := (acc_owns c) $$ Ha
  icases Ha with ⟨%X, Ha⟩
  ihave Hr := (rcv_owns c) $$ Hr
  isplitl [Hs]; · iexact Hs
  isplitl [Ha]
  · iexists X
    isplitr [Ha]; · ipureintro; exact accAt_zero m c X
    iexact Ha
  iexact Hr

theorem last_exit (c : Dev nD) :
    (rdats m 0 c).Φ (Fin.last cfg0.N) ⊢ iprop(unscopedSems0 c ∗ Pipeline.ownSems0 osem c ∗ Pipeline.scopedRest cfg0.spec c) := by
  rw [show (rdats m 0 c).Φ (Fin.last cfg0.N) = done c from rfl, scopedRest0_eq, ownSems0_eq, unscopedSems0_eq]
  unfold done
  iintro ⟨Ha, Hr, HB, HO⟩
  isplitl [HB]; · iexact HB
  isplitl [HO]; · iexact HO
  isplitl [Ha]
  · iapply (owns_acc c) $$ Ha
  iapply (owns_rcv c) $$ Hr

theorem stage_level (c : Dev nD) : ∀ (w : Fin cfg0.W) (s : Fin (cfg0.spec w).nbuf), lv ((c.tc : Thread nD τ), .dma ((cfg0.spec w).sem s)) () ≤ 0 := by
  intro w s
  refine le_of_eq (lv_other c _ ?_ ())
  revert w s; decide

theorem waits (c : Dev nD) : (levAts L lv : sProp 𝕄) ⊢ Pipeline.RDat.cellsWaits cfgs (rdats m) () 0 c :=
  Pipeline.RDat.cellsWaits_intro cfgs (rdats m) () 0 c fun w s t =>
    mayWait c _ 0 (stage_level c w s) (by
      show Above 0 (if t.val = 16 then 0 else owe4 c)
      split
      · exact above_zero 0
      · exact above_owe4 c)

theorem share_eq (c : Dev nD) (w : Fin cfg0.W) : (rdats m 0 c).share w = fullShare := by
  unfold RDat.share; split <;> rfl

/-! ## The arrays at the end -/

theorem out_eq (c : Dev nD) (X : Buf (Elt F) ((cfg0.win 3).arr.view.loc (c : Thread nD τ))) (h : (rdats m 0 c).ArrAt 3 cfg0.N X) : X = result m c := by
  obtain ⟨Y, ⟨_, _, hY⟩, hX⟩ := RDat.ArrAt.emb_eq_of_wholeAt h (t₀ := t0_15) (by decide +kernel)
  rw [hY rfl] at hX
  exact funext fun j => hX j

theorem in_eq (c : Dev nD) (w : Fin cfg0.W) (hw : (cfg0.win w).isOut = false) (X : Buf (Elt F) ((cfg0.win w).arr.view.loc (c : Thread nD τ)))
    (h : (rdats m 0 c).ArrAt w cfg0.N X) : X = m ((cfg0.win w).arr.view.loc (c : Thread nD τ)) :=
  (congrFun ((rdats m 0 c).ArrAt_in w hw cfg0.N) X).mp h

/-! ## The run -/

/-- What the run leaves: every device's output at `result`, its arguments unchanged. -/
def Leaves (r : PUnit × MemSt nD τ sig (Elt F)) : Prop :=
  ∀ c : Dev nD, r.2.mem ((c : Thread nD τ).loc main_v1) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

theorem run_main : θ_run defs (onTc (τ := τ) (main (F := F))) ⟨m, fun _ => 0, ρ⟩ (fun r => Leaves m r ∧ r.2.sem = fun _ => 0) :=
  Pipeline.RDat.θ_run_region_owing_glob_pf (fun p => (cfgs p).toPCfg) (fun p => (cfgs p).toPCfg_adm) (rdats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := owe4) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := deal m)
    (hA := fun _ _ => rfl) (hpf := fun _ k => k.elim0)
    (X := start m) (Y := fun c => unscopedSems0 c) (Z := fun _ => iprop(emp))
    (hX := start_intro m ρ) (hin := first_intro m) (hout := last_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c => ⟨out_eq m c _ ((h c).1 3), in_eq m c 0 rfl _ ((h c).1 0), in_eq m c 1 rfl _ ((h c).1 1), in_eq m c 2 rfl _ ((h c).1 2)⟩,
      sem_eq_zero hs fun c => (h c).2.2⟩)

end Cert.FlashDec
-- ==== Proof.Scores.lean ====
/-
  What one grid point contributes, over the reals: for each head and key the exponential of the scaled score, these summed, and these times the
  values summed.
-/
module

public import proofs.«01_k».proof.Proof.Run
public import Idealize.ShloMosaic.Lib.Pointwise

@[expose] public section

set_option maxRecDepth 16384

noncomputable section

namespace Cert.FlashDec

open Cert.KernelIdeal Cert.KernelIdeal.Gen
open Idealize.ShloMosaic

/-- The scale both programs multiply a score by: the f32 nearest to 1/√128. -/
abbrev scale : EReal := Ideal.ofBits .f32 0x3DB504F3#32

theorem pay23_apply (q : FVec Ideal S1x8x1x128 .f32) (k : FVec Ideal S1x512x1x128 .f32) (r : Fin 8) (j : Fin 512) :
    k0_pay23 (F := Ideal) q k (ix2 r j) = Ideal.exp ((∑ e : Fin 128, q (ix4 0 r 0 e) * k (ix4 0 j 0 e)) * scale) := by
  pointwise [k0_pay23]

theorem pay26_apply (q : FVec Ideal S1x8x1x128 .f32) (k v : FVec Ideal S1x512x1x128 .f32) (r : Fin 8) (d : Fin 128) :
    k0_pay26 (F := Ideal) q k v (ix4 0 r 0 d) = ∑ j : Fin 512, k0_pay23 (F := Ideal) q k (ix2 r j) * v (ix4 0 j 0 d) := by
  pointwise [k0_pay26, k0_pay25]

theorem pay27_apply (q : FVec Ideal S1x8x1x128 .f32) (k : FVec Ideal S1x512x1x128 .f32) (r : Fin 8) :
    k0_pay27 (F := Ideal) q k (ix4 0 r 0 0) = ∑ j : Fin 512, k0_pay23 (F := Ideal) q k (ix2 r j) := by
  pointwise [k0_pay27, k0_pay24]

end Cert.FlashDec
-- ==== Proof.KernelValue.lean ====
/-
  The kernel's result over the reals. A device's accumulator holds the sums over its own 1024 keys; after the two steps of the exchange it holds
  the sums over the keys of all four devices along the mesh's second axis, that is, over all 4096 keys.
-/
module

public import proofs.«01_k».proof.Proof.Scores
public import Idealize.ShloMosaic.Lib.Pipeline.ValueKit.Geometry
public import Idealize.ShloMosaic.Lib.Layout

@[expose] public section

set_option maxRecDepth 16384

noncomputable section

namespace Cert.FlashDec

open Cert.KernelIdeal Cert.KernelIdeal.Gen
open Idealize.ShloMosaic
open Idealize.ShloMosaic.TcCoe
open Idealize.ShloMosaic.View (ld)

/-! ## The input blocks -/

section Blocks

variable {F : FTy → Type} [FloatOps F]
variable (m : (ℓ : Loc nD τ sig) → Buf (Elt F) ℓ) (c : Dev nD)

theorem index_q : ∀ t : Fin cfg0.N, win0_0.index t = ![t.val / 2, 0, 0, 0] := by decide +kernel
theorem index_k : ∀ t : Fin cfg0.N, win0_1.index t = ![t.val / 2, t.val % 2, 0, 0] := by decide +kernel
theorem index_v : ∀ t : Fin cfg0.N, win0_2.index t = ![t.val / 2, t.val % 2, 0, 0] := by decide +kernel

/-- The key that lies at place `i` of chunk `j`. -/
def key (j : Fin 2) (i : Fin 512) : Fin 1024 := ⟨j.val * 512 + i.val, by omega⟩

theorem iblk_q (b : Fin 8) (j : Fin 2) (r : Fin 8) (h : Fin 16) (e : Fin 128) :
    iblk m c 0 (pt b j) (ix4 0 r h e) = V m c main_arg0 (ix4 b r h e) := by
  have hj := j.isLt
  blk_simp [iblk]
  congr 1
  funext a
  match a with
  | ⟨0, _⟩ => ext; blk_simp [index_q]; change (2 * b.val + j.val) / 2 + 0 = b.val; omega
  | ⟨1, _⟩ => ext; blk_simp [index_q]
  | ⟨2, _⟩ => ext; blk_simp [index_q]
  | ⟨3, _⟩ => ext; blk_simp [index_q]

theorem iblk_k (b : Fin 8) (j : Fin 2) (i : Fin 512) (h : Fin 16) (e : Fin 128) :
    iblk m c 1 (pt b j) (ix4 0 i h e) = V m c main_arg1 (ix4 b (key j i) h e) := by
  have hj := j.isLt
  blk_simp [iblk]
  congr 1
  funext a
  match a with
  | ⟨0, _⟩ => ext; blk_simp [index_k]; change (2 * b.val + j.val) / 2 + 0 = b.val; omega
  | ⟨1, _⟩ => ext; blk_simp [index_k]; change (2 * b.val + j.val) % 2 * 512 + i.val = j.val * 512 + i.val; omega
  | ⟨2, _⟩ => ext; blk_simp [index_k]
  | ⟨3, _⟩ => ext; blk_simp [index_k]

theorem iblk_v (b : Fin 8) (j : Fin 2) (i : Fin 512) (h : Fin 16) (e : Fin 128) :
    iblk m c 2 (pt b j) (ix4 0 i h e) = V m c main_arg2 (ix4 b (key j i) h e) := by
  have hj := j.isLt
  blk_simp [iblk]
  congr 1
  funext a
  match a with
  | ⟨0, _⟩ => ext; blk_simp [index_v]; change (2 * b.val + j.val) / 2 + 0 = b.val; omega
  | ⟨1, _⟩ => ext; blk_simp [index_v]; change (2 * b.val + j.val) % 2 * 512 + i.val = j.val * 512 + i.val; omega
  | ⟨2, _⟩ => ext; blk_simp [index_v]
  | ⟨3, _⟩ => ext; blk_simp [index_v]

theorem ld_q (X : S1x8x16x128.Idx → Elt F .f32) (h : Fin 16) (r : Fin 8) (e : Fin 128) : ld X (qRect h) (ix4 0 r 0 e) = X (ix4 0 r h e) := by
  show X ((qRect h).idx _) = _
  congr 1
  funext a
  match a with
  | ⟨0, _⟩ => ext; rfl
  | ⟨1, _⟩ => ext; change 0 + 1 * r.val = r.val; omega
  | ⟨2, _⟩ => ext; change h.val + 1 * 0 = h.val; omega
  | ⟨3, _⟩ => ext; change 0 + 1 * e.val = e.val; omega

theorem ld_kv (Y : S1x512x16x128.Idx → Elt F .f32) (h : Fin 16) (i : Fin 512) (e : Fin 128) : ld Y (kvRect h) (ix4 0 i 0 e) = Y (ix4 0 i h e) := by
  show Y ((kvRect h).idx _) = _
  congr 1
  funext a
  match a with
  | ⟨0, _⟩ => ext; rfl
  | ⟨1, _⟩ => ext; change 0 + 1 * i.val = i.val; omega
  | ⟨2, _⟩ => ext; change h.val + 1 * 0 = h.val; omega
  | ⟨3, _⟩ => ext; change 0 + 1 * e.val = e.val; omega

end Blocks

/-! ## A device's own keys -/

section Own

/-- The scaled score of a query and a key. -/
def score {n : Nat} (Q : S8x8x16x128.Idx → EReal) (K : (⟨4, ![8, n, 16, 128]⟩ : Shape).Idx → EReal) (b : Fin 8) (r : Fin 8) (h : Fin 16) (k : Fin n) :
    EReal :=
  (∑ e : Fin 128, Q (ix4 b r h e) * K (ix4 b k h e)) * scale

variable (m : (ℓ : Loc nD τ sig) → Buf (Elt Ideal) ℓ) (c : Dev nD)

theorem weights (b : Fin 8) (j : Fin 2) (r : Fin 8) (h : Fin 16) (i : Fin 512) :
    k0_pay23 (F := Ideal) (ld (iblk m c 0 (pt b j)) (qRect h)) (ld (iblk m c 1 (pt b j)) (kvRect h)) (ix2 r i)
      = Ideal.exp (score (V m c main_arg0) (V m c main_arg1) b r h (key j i)) := by
  refine (pay23_apply _ _ r i).trans ?_
  unfold score
  congr 2
  refine Finset.sum_congr rfl fun e _ => ?_
  exact congrArg₂ (· * ·) ((ld_q _ h r e).trans (iblk_q m c b j r h e)) ((ld_kv _ h i e).trans (iblk_k m c b j i h e))

theorem contrib_row (b : Fin 8) (j : Fin 2) (r : Fin 8) (h : Fin 16) (d : Fin 128) (h' : Fin 17) (hh : h'.val = h.val) :
    contrib m c (pt b j) (ix4 b r h' d)
      = ∑ i : Fin 512, Ideal.exp (score (V m c main_arg0) (V m c main_arg1) b r h (key j i)) * V m c main_arg2 (ix4 b (key j i) h d) := by
  refine (part_row _ _ _ h (ix4 b r h' d) hh).trans ((pay26_apply _ _ _ r d).trans ?_)
  refine Finset.sum_congr rfl fun i _ => ?_
  exact congrArg₂ (· * ·) (weights m c b j r h i) ((ld_kv _ h i d).trans (iblk_v m c b j i h d))

theorem contrib_sum (b : Fin 8) (j : Fin 2) (r : Fin 8) (h : Fin 16) (l : Fin 128) (hl : l.val = h.val) :
    contrib m c (pt b j) (ix4 b r ⟨16, by decide⟩ l)
      = ∑ i : Fin 512, Ideal.exp (score (V m c main_arg0) (V m c main_arg1) b r h (key j i)) := by
  refine (part_sum _ _ _ h (ix4 b r ⟨16, by decide⟩ l) rfl hl).trans ((pay27_apply _ _ r).trans ?_)
  exact Finset.sum_congr rfl fun i _ => weights m c b j r h i

theorem two_chunks (f : Fin 1024 → EReal) : ∑ k, f k = (∑ i, f (key 0 i)) + ∑ i, f (key 1 i) := by
  rw [Fin.sum_univ_tiles 2 512 rfl, Fin.sum_univ_two]
  rfl

theorem acc_row (b : Fin 8) (r : Fin 8) (h : Fin 16) (d : Fin 128) (h' : Fin 17) (hh : h'.val = h.val) :
    accA m c (ix4 b r h' d)
      = ∑ k : Fin 1024, Ideal.exp (score (V m c main_arg0) (V m c main_arg1) b r h k) * V m c main_arg2 (ix4 b k h d) := by
  rw [two_chunks]
  exact congrArg₂ (· + ·) (contrib_row m c b 0 r h d h' hh) (contrib_row m c b 1 r h d h' hh)

theorem acc_sum (b : Fin 8) (r : Fin 8) (h : Fin 16) (l : Fin 128) (hl : l.val = h.val) :
    accA m c (ix4 b r ⟨16, by decide⟩ l) = ∑ k : Fin 1024, Ideal.exp (score (V m c main_arg0) (V m c main_arg1) b r h k) := by
  rw [two_chunks]
  exact congrArg₂ (· + ·) (contrib_sum m c b 0 r h l hl) (contrib_sum m c b 1 r h l hl)

end Own

/-! ## The keys of all four devices -/

section All

/-- A device's place along the mesh's second axis, which cuts the keys. -/
def place (c : Dev nD) : Fin 4 := ⟨c.val / 4 % 4, Nat.mod_lt _ (by decide)⟩

/-- The key at place `k` of device `c`'s block, among all. -/
def gkey (c : Dev nD) (k : Fin 1024) : Fin 4096 := ⟨(place c).val * 1024 + k.val, by have := (place c).isLt; omega⟩

/-- The four devices that one device's sums come from lie at the four places. -/
theorem places : ∀ c : Dev nD, place c = 0 ∧ place (peer 0 c) = 1 ∧ place (peer 1 c) = 2 ∧ place (peer 0 (peer 1 c)) = 3
    ∨ place c = 1 ∧ place (peer 0 c) = 0 ∧ place (peer 1 c) = 3 ∧ place (peer 0 (peer 1 c)) = 2
    ∨ place c = 2 ∧ place (peer 0 c) = 3 ∧ place (peer 1 c) = 0 ∧ place (peer 0 (peer 1 c)) = 1
    ∨ place c = 3 ∧ place (peer 0 c) = 2 ∧ place (peer 1 c) = 1 ∧ place (peer 0 (peer 1 c)) = 0 := by decide +kernel

/-- A sum of one term per place, in the order the exchange adds them. -/
theorem four_places (g : Fin 4 → EReal) (c : Dev nD) :
    (g (place c) + g (place (peer 0 c))) + (g (place (peer 1 c)) + g (place (peer 0 (peer 1 c)))) = ∑ y, g y := by
  rw [Fin.sum_univ_four]
  rcases places c with ⟨e0, e1, e2, e3⟩ | ⟨e0, e1, e2, e3⟩ | ⟨e0, e1, e2, e3⟩ | ⟨e0, e1, e2, e3⟩ <;> rw [e0, e1, e2, e3] <;> ac_rfl

/-- An accumulator element that is, on every device, a sum over the device's own keys is after the exchange the sum over all keys. -/
theorem total_sum (m : (ℓ : Loc nD τ sig) → Buf (Elt Ideal) ℓ) (f : Fin 4096 → EReal) (x : S8x8x17x128.Idx)
    (hf : ∀ c, accA m c x = ∑ k : Fin 1024, f (gkey c k)) (c : Dev nD) : total m c x = ∑ k, f k := by
  rw [Fin.sum_univ_tiles 4 1024 rfl, ← four_places _ c]
  exact congrArg₂ (· + ·) (congrArg₂ (· + ·) (hf c) (hf _)) (congrArg₂ (· + ·) (hf _) (hf _))

variable (m : (ℓ : Loc nD τ sig) → Buf (Elt Ideal) ℓ) (Q : S8x8x16x128.Idx → EReal) (K W : (⟨4, ![8, 4096, 16, 128]⟩ : Shape).Idx → EReal)

/-- The device's output array is the mean of the values of all keys, weighted by the exponentials of the scores. -/
theorem result_apply (hQ : ∀ c, V m c main_arg0 = Q) (hK : ∀ c b k h e, V m c main_arg1 (ix4 b k h e) = K (ix4 b (gkey c k) h e))
    (hW : ∀ c b k h e, V m c main_arg2 (ix4 b k h e) = W (ix4 b (gkey c k) h e)) (c : Dev nD) (b r : Fin 8) (h : Fin 16) (d : Fin 128) :
    result m c (ix4 b r h d)
      = Ideal.div (∑ k, Ideal.exp (score Q K b r h k) * W (ix4 b k h d)) (∑ k, Ideal.exp (score Q K b r h k)) := by
  have hs (c : Dev nD) (k : Fin 1024) : score (V m c main_arg0) (V m c main_arg1) b r h k = score Q K b r h (gkey c k) := by
    unfold score
    rw [hQ]
    simp only [hK]
  refine congrArg₂ Ideal.div (total_sum m _ _ (fun c => ?_) c) (total_sum m _ _ (fun c => ?_) c)
  · refine (acc_row m c b r h d _ rfl).trans (Finset.sum_congr rfl fun k _ => ?_)
    rw [hs, hW]
  · refine (acc_sum m c b r h _ rfl).trans (Finset.sum_congr rfl fun k _ => ?_)
    rw [hs]

end All

end Cert.FlashDec
-- ==== Proof.RefValue.lean ====
/-
  The reference's result over the reals, at one output element.
-/
module

public import proofs.«01_k».proof.Proof.Gen.ReferenceIdeal.Run
public import Idealize.ShloMosaic.Lib.Pointwise

@[expose] public section

set_option maxRecDepth 16384

noncomputable section

namespace Cert.FlashDec

open Cert.ReferenceIdeal Cert.ReferenceIdeal.Gen
open Idealize.ShloMosaic

variable (Q : FVec Ideal S8x8x16x128 .f32) (K V : FVec Ideal S8x4096x16x128 .f32)

/-- The reference's scaled scores. -/
def refScores : FVec Ideal S8x16x8x4096 .f32 :=
  mulf (Host.dotGeneral dot_S8x8x16x128_S8x4096x16x128_S8x16x8x4096_3_3_1_1_02_02 none Q K)
    (broadcastInDim S8x16x8x4096 ![] bcast_S_S8x16x8x4096 (constant S_ .f32 0x3DB504F3#32))

/-- The exponentials of the scores less their greatest. -/
def refExps (s : FVec Ideal S8x16x8x4096 .f32) : FVec Ideal S8x16x8x4096 .f32 :=
  Host.exp (subf s (broadcastInDim S8x16x8x4096 ![0, 1, 2, 3] bcast_S8x16x8x1_S8x16x8x4096_0_1_2_3
    (broadcastInDim S8x16x8x1 ![0, 1, 2] bcast_S8x16x8_S8x16x8x1_0_1_2
      (Host.reduce FloatOps.maximumf s (constant S_ .f32 0xFF800000#32) reducesTo_S8x16x8x4096_S8x16x8_d3 h_S_))))

/-- The mean of the values weighted by exponentials `w`. -/
def refMean (w : FVec Ideal S8x16x8x4096 .f32) : FVec Ideal S8x8x16x128 .f32 :=
  transpose S8x8x16x128 [0, 3, 1, 2] (Host.dotGeneral dot_S8x4096x16x128_S8x16x8x4096_S8x16x128x8_1_3_3_2_02_01 none V
    (Host.divf w (broadcastInDim S8x16x8x4096 ![0, 1, 2, 3] bcast_S8x16x8x1_S8x16x8x4096_0_1_2_3
      (broadcastInDim S8x16x8x1 ![0, 1, 2] bcast_S8x16x8_S8x16x8x1_0_1_2
        (Host.reduceAdd w (constant S_ .f32 0x00000000#32) reducesTo_S8x16x8x4096_S8x16x8_d3 h_S_)))))
    transposes_S8x16x128x8_S8x8x16x128_0_3_1_2

theorem bot_word : Ideal.ofBits .f32 0xFF800000#32 = ⊥ := by simp [Ideal.ofBits, Ideal.ieee]

theorem refScores_apply (b : Fin 8) (h : Fin 16) (r : Fin 8) (k : Fin 4096) :
    refScores Q K (ix4 b h r k) = (∑ e : Fin 128, Q (ix4 b r h e) * K (ix4 b k h e)) * Ideal.ofBits .f32 0x3DB504F3#32 := by
  pointwise [refScores]

theorem refExps_apply (s : FVec Ideal S8x16x8x4096 .f32) (b : Fin 8) (h : Fin 16) (r : Fin 8) (k : Fin 4096) :
    refExps s (ix4 b h r k) = Ideal.exp (s (ix4 b h r k) - Finset.univ.fold max ⊥ fun k => s (ix4 b h r k)) := by
  pointwise [refExps]
  rw [bot_word]

theorem refMean_apply (w : FVec Ideal S8x16x8x4096 .f32) (b r : Fin 8) (h : Fin 16) (d : Fin 128) :
    refMean V w (ix4 b r h d) = ∑ k : Fin 4096, V (ix4 b k h d) * Ideal.div (w (ix4 b h r k)) (∑ k : Fin 4096, w (ix4 b h r k)) := by
  pointwise [refMean]

end Cert.FlashDec
-- ==== Proof.Softmax.lean ====
/-
  The one identity the value claim rests on, over the extended reals: weighting by exponentials and dividing once at the end is the same as
  weighting by the exponentials of the scores less their greatest, each divided by their sum. The scores are real; the values may be infinite.
-/
module

public import Idealize.ShloMosaic.PureOps.Ideal.Laws
public import Mathlib.Data.EReal.Operations
public import Mathlib.Data.Finset.Fold

@[expose] public section

noncomputable section

namespace Cert.FlashDec

open Idealize.ShloMosaic

variable {n : Nat}

/-- A sum of reals, taken in the extended reals, is real. -/
theorem sum_coe {ι : Type*} (t : Finset ι) (f : ι → ℝ) : ∑ k ∈ t, (f k : EReal) = ((∑ k ∈ t, f k : ℝ) : EReal) := by
  classical
  induction t using Finset.induction_on with
  | empty => simp
  | insert a t ha ih => rw [Finset.sum_insert ha, Finset.sum_insert ha, ih, EReal.coe_add]

/-- A nonnegative real factor moves into a sum of extended reals. -/
theorem sum_mul_real {ι : Type*} (t : Finset ι) (f : ι → EReal) {c : ℝ} (hc : 0 ≤ c) : (∑ k ∈ t, f k) * (c : EReal) = ∑ k ∈ t, f k * (c : EReal) := by
  classical
  induction t using Finset.induction_on with
  | empty => simp
  | insert a t ha ih =>
    rw [Finset.sum_insert ha, Finset.sum_insert ha, EReal.right_distrib_of_nonneg_of_ne_top (EReal.coe_nonneg.mpr hc) (EReal.coe_ne_top c), ih]

/-- The greatest of finitely many reals, at least one, is real. -/
theorem max_real (s : Fin (n + 1) → ℝ) : ∃ M : ℝ, Finset.univ.fold max ⊥ (fun k => (s k : EReal)) = (M : EReal) := by
  have ht : Finset.univ.fold max ⊥ (fun k => (s k : EReal)) < ⊤ := (Finset.fold_max_lt _).mpr ⟨bot_lt_top, fun k _ => EReal.coe_lt_top _⟩
  have hb : ⊥ < Finset.univ.fold max ⊥ (fun k => (s k : EReal)) := (Finset.lt_fold_max _).mpr (.inr ⟨0, Finset.mem_univ _, EReal.bot_lt_coe _⟩)
  exact ⟨_, (EReal.coe_toReal ht.ne hb.ne').symm⟩

/-- The two ways to the weighted mean of `v` by the exponentials of the scores `s`. -/
theorem softmax_eq (s : Fin (n + 1) → ℝ) (v : Fin (n + 1) → EReal) (M : ℝ) :
    Ideal.div (∑ k, Ideal.exp (s k) * v k) (∑ k, Ideal.exp (s k))
      = ∑ k, v k * Ideal.div (Ideal.exp ((s k : EReal) - (M : EReal))) (∑ k, Ideal.exp ((s k : EReal) - (M : EReal))) := by
  have hD : 0 < ∑ k, Real.exp (s k) := Finset.sum_pos (fun k _ => Real.exp_pos _) ⟨0, Finset.mem_univ _⟩
  have hE : 0 < ∑ k, Real.exp (s k - M) := Finset.sum_pos (fun k _ => Real.exp_pos _) ⟨0, Finset.mem_univ _⟩
  have hDE : ∑ k, Real.exp (s k - M) = (∑ k, Real.exp (s k)) * Real.exp (-M) := by
    rw [Finset.sum_mul]
    exact Finset.sum_congr rfl fun k _ => by rw [sub_eq_add_neg, Real.exp_add]
  simp only [← EReal.coe_sub, Ideal.exp_coe, sum_coe]
  rw [Ideal.div_coe hD.ne', sum_mul_real _ _ (by positivity)]
  refine Finset.sum_congr rfl fun k _ => ?_
  rw [Ideal.div_coe hE.ne', ← EReal.coe_mul, mul_comm ((Real.exp (s k) : ℝ) : EReal), mul_assoc, ← EReal.coe_mul]
  congr 2
  rw [hDE, sub_eq_add_neg, Real.exp_add]
  have := Real.exp_pos (-M)
  field_simp

end Cert.FlashDec
-- ==== Proof.Equation.lean ====
/-
  The kernel's result is the reference's, over the reals: `result_eq`, from launch memories that hold the same arrays, the scores' factors finite.
-/
module

public import proofs.«01_k».proof.Proof.KernelValue
public import proofs.«01_k».proof.Proof.RefValue
public import proofs.«01_k».proof.Proof.Softmax
public import proofs.«01_k».proof.Pre_finite_scores_KernelIdeal

@[expose] public section

set_option maxRecDepth 16384

noncomputable section

namespace Cert.FlashDec

open Idealize.ShloMosaic
open Idealize.ShloMosaic.TcCoe

/-! ## Finite factors -/

theorem top_word : Ideal.ofBits .f32 0x7F800000#32 = ⊤ := by simp [Ideal.ofBits, Ideal.ieee]

theorem scale_real : ∃ r : ℝ, scale = (r : EReal) := by
  refine ⟨11863283 * ((2 : ℝ) ^ 27)⁻¹, ?_⟩
  simp [scale, Ideal.ofBits, Ideal.ieee]

/-- A number whose absolute value compares below infinity is real. -/
theorem real_of_cmp {x : EReal} (h : Ideal.cmp .olt (max x (-x)) ⊤ = 1#1) : ((x.toReal : ℝ) : EReal) = x := by
  have hlt : max x (-x) < ⊤ := by
    by_contra hn
    have e : Ideal.cmp .olt (max x (-x)) ⊤ = BitVec.ofBool (decide (max x (-x) < ⊤)) := rfl
    rw [e, decide_eq_false hn] at h
    exact absurd h (by decide)
  obtain ⟨h1, h2⟩ := max_lt_iff.mp hlt
  refine EReal.coe_toReal h1.ne fun hb => ?_
  rw [hb, EReal.neg_bot] at h2
  exact absurd h2 (lt_irrefl _)

section Pre

variable [Cert.Pre_finite_scores_KernelIdeal.Facts]
variable (Q : FVec Ideal Cert.KernelIdeal.S8x8x16x128 .f32) (K V : FVec Ideal Cert.KernelIdeal.S8x1024x16x128 .f32)

theorem finite_q (h : (Cert.Pre_finite_scores_KernelIdeal.fn (F := Ideal) Q K V).1 = fun _ => 1#1) (x : Cert.KernelIdeal.S8x8x16x128.Idx) :
    (((Q x).toReal : ℝ) : EReal) = Q x :=
  real_of_cmp (top_word ▸ congrFun h x)

theorem finite_k (h : (Cert.Pre_finite_scores_KernelIdeal.fn (F := Ideal) Q K V).2 = fun _ => 1#1) (x : Cert.KernelIdeal.S8x1024x16x128.Idx) :
    (((K x).toReal : ℝ) : EReal) = K x :=
  real_of_cmp (top_word ▸ congrFun h x)

end Pre

/-! ## The two results -/

section Equal

variable (Q : FVec Ideal Cert.ReferenceIdeal.S8x8x16x128 .f32) (K W : FVec Ideal Cert.ReferenceIdeal.S8x4096x16x128 .f32)

theorem score_real (hQ : ∀ x, (((Q x).toReal : ℝ) : EReal) = Q x) (hK : ∀ x, (((K x).toReal : ℝ) : EReal) = K x) (b r : Fin 8) (h : Fin 16)
    (k : Fin 4096) : (((score Q K b r h k).toReal : ℝ) : EReal) = score Q K b r h k := by
  obtain ⟨σ, hσ⟩ := scale_real
  have e : score Q K b r h k = (((∑ e : Fin 128, (Q (ix4 b r h e)).toReal * (K (ix4 b k h e)).toReal) * σ : ℝ) : EReal) := by
    unfold score
    rw [hσ, EReal.coe_mul, ← sum_coe]
    congr 1
    refine Finset.sum_congr rfl fun e _ => ?_
    rw [EReal.coe_mul, hQ, hK]
  rw [e, EReal.toReal_coe]

/-- The mean by exponentials of scores less their greatest is the mean by exponentials of scores. -/
theorem mean_eq (hQ : ∀ x, (((Q x).toReal : ℝ) : EReal) = Q x) (hK : ∀ x, (((K x).toReal : ℝ) : EReal) = K x) (b r : Fin 8) (h : Fin 16)
    (d : Fin 128) :
    Ideal.div (∑ k, Ideal.exp (score Q K b r h k) * W (ix4 b k h d)) (∑ k, Ideal.exp (score Q K b r h k))
      = refMean W (refExps (refScores Q K)) (ix4 b r h d) := by
  have hs : (fun k => refScores Q K (ix4 b h r k)) = fun k => (((score Q K b r h k).toReal : ℝ) : EReal) :=
    funext fun k => (refScores_apply Q K b h r k).trans (score_real Q K hQ hK b r h k).symm
  obtain ⟨M, hM⟩ := max_real (n := 4095) fun k => (score Q K b r h k).toReal
  have hw (k : Fin 4096) : refExps (refScores Q K) (ix4 b h r k) = Ideal.exp ((((score Q K b r h k).toReal : ℝ) : EReal) - (M : EReal)) := by
    rw [refExps_apply, hs, congrFun hs k, hM]
  rw [refMean_apply]
  simp only [hw]
  refine Eq.trans ?_ (softmax_eq (n := 4095) (fun k => (score Q K b r h k).toReal) (fun k => W (ix4 b k h d)) M)
  simp only [score_real Q K hQ hK]

end Equal

/-! ## The devices' blocks -/

section Shards

open Cert.KernelIdeal Cert.KernelIdeal.Gen

/-- A device's block of the keys, at one element. -/
theorem blockN_key (X : (⟨4, ![8, 4096, 16, 128]⟩ : Shape).Idx → EReal) (c : Dev nD) (b : Fin 8) (k : Fin 1024) (h : Fin 16) (e : Fin 128) :
    Layout.blockN ⟨4, ![8, 1024, 16, 128]⟩ ⟨4, ![8, 4096, 16, 128]⟩ (Layout.meshBlock [2, 4, 4] ![[], [1], [], []] c) X (by decide) (ix4 b k h e)
      = X (ix4 b (gkey c k) h e) := by
  rw [Layout.blockN_apply]
  congr 1
  funext a
  match a with
  | ⟨0, _⟩ => ext; change 0 * 8 + b.val = b.val; omega
  | ⟨1, _⟩ => ext; change (c.val / 4 % 4 * 1 + 0) * 1024 + k.val = c.val / 4 % 4 * 1024 + k.val; omega
  | ⟨2, _⟩ => ext; change 0 * 16 + h.val = h.val; omega
  | ⟨3, _⟩ => ext; change 0 * 128 + e.val = e.val; omega

/-- Every key is some device's. -/
theorem key_owned (k : Fin 4096) : ∃ (c : Dev nD) (k' : Fin 1024), gkey c k' = k := by
  have hk := k.isLt
  refine ⟨⟨4 * (k.val / 1024), by change _ < 32; omega⟩, ⟨k.val % 1024, Nat.mod_lt _ (by decide)⟩, Fin.ext ?_⟩
  change 4 * (k.val / 1024) / 4 % 4 * 1024 + k.val % 1024 = k.val
  omega

variable [Cert.Pre_finite_scores_KernelIdeal.Facts]
variable (m : (ℓ : Loc nD τ sig) → Buf (Elt Ideal) ℓ)
variable (Q : FVec Ideal Cert.ReferenceIdeal.S8x8x16x128 .f32) (K W : FVec Ideal Cert.ReferenceIdeal.S8x4096x16x128 .f32)

theorem result_eq
    (hpre : ∀ c : Dev nD, (Cert.Pre_finite_scores_KernelIdeal.fn (F := Ideal) (V m c main_arg0) (V m c main_arg1) (V m c main_arg2)).1 = (fun _ => 1#1)
      ∧ (Cert.Pre_finite_scores_KernelIdeal.fn (F := Ideal) (V m c main_arg0) (V m c main_arg1) (V m c main_arg2)).2 = (fun _ => 1#1))
    (hQ : ∀ c : Dev nD, V m c main_arg0 = Q)
    (hK : ∀ c : Dev nD, V m c main_arg1
      = Layout.blockN ⟨4, ![8, 1024, 16, 128]⟩ ⟨4, ![8, 4096, 16, 128]⟩ (Layout.meshBlock [2, 4, 4] ![[], [1], [], []] c) K)
    (hW : ∀ c : Dev nD, V m c main_arg2
      = Layout.blockN ⟨4, ![8, 1024, 16, 128]⟩ ⟨4, ![8, 4096, 16, 128]⟩ (Layout.meshBlock [2, 4, 4] ![[], [1], [], []] c) W) (c : Dev nD) :
    result m c = refMean W (refExps (refScores Q K)) := by
  have eK (c : Dev nD) (b : Fin 8) (k : Fin 1024) (h : Fin 16) (e : Fin 128) : V m c main_arg1 (ix4 b k h e) = K (ix4 b (gkey c k) h e) := by
    rw [hK]; exact blockN_key K c b k h e
  have eW (c : Dev nD) (b : Fin 8) (k : Fin 1024) (h : Fin 16) (e : Fin 128) : V m c main_arg2 (ix4 b k h e) = W (ix4 b (gkey c k) h e) := by
    rw [hW]; exact blockN_key W c b k h e
  have fQ (x) : (((Q x).toReal : ℝ) : EReal) = Q x := by
    have := finite_q _ _ _ (hpre 0).1 x
    rwa [hQ] at this
  have fK (x) : (((K x).toReal : ℝ) : EReal) = K x := by
    obtain ⟨c', k', hk⟩ := key_owned (x 1)
    have e : V m c' main_arg1 (ix4 (x 0) k' (x 2) (x 3)) = K x :=
      (eK c' (x 0) k' (x 2) (x 3)).trans (congrArg K ((congrArg (fun k => ix4 (x 0) k (x 2) (x 3)) hk).trans (eq_ix4 x).symm))
    exact (congrArg (fun y : EReal => ((y.toReal : ℝ) : EReal)) e).symm.trans ((finite_k _ _ _ (hpre c').2 _).trans e)
  funext x
  rw [eq_ix4 x]
  exact (result_apply m Q K W hQ eK eW c (x 0) (x 1) (x 2) (x 3)).trans (mean_eq Q K W fQ fK (x 0) (x 1) (x 2) (x 3))

end Shards

end Cert.FlashDec
-- ==== Proof.SameProgram.lean ====
/-
  The kernel printed for the bit-exact reading and the one printed for the ideal reading are one program: no operation was replaced. A run proved
  of the second at any float instance is a run of the first.
-/
module

public import proofs.«01_k».proof.Proof.Gen.Kernel
public import proofs.«01_k».proof.Proof.Run

@[expose] public section

set_option maxRecDepth 65536
set_option maxHeartbeats 2000000

noncomputable section

namespace Cert.FlashDec

open Idealize.ShloMosaic
open Idealize.ShloMosaic.TcCoe
open Idealize.SL.Sem

variable {F : FTy → Type} [FloatOps F]

theorem same_defs₀ : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l a
  match l, a with
  | 0, (t, s) => exact rfl
  | ⟨_ + 1, h⟩, _ => exact absurd h (Nat.not_lt.2 (Nat.le_add_left _ _))

theorem same_defs : Cert.Kernel.defs (F := F) = Cert.KernelIdeal.defs (F := F) :=
  congrArg (Pipeline.defs Cert.KernelIdeal.pcfgs) same_defs₀

/-- The kernel's run, of the program printed for the bit-exact reading: its arguments unchanged and every semaphore at zero. -/
theorem run_kernel (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [same_defs]
  exact (θ_run (Cert.KernelIdeal.defs (F := F)) _ _).mono (fun _ h => ⟨fun c => (h.1 c).2, h.2⟩) (run_main (F := F) m g)

end Cert.FlashDec
-- ==== Proof.lean ====
/-
  The certificate's theorem. The kernel's frames and its value come from one run (`Proof/Run.lean`), proved at any float instance; the reference's
  from the run of its operations. The two values are equal by `Proof/Equation.lean`.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Run
public import proofs.«01_k».proof.Proof.Equation
public import proofs.«01_k».proof.Proof.SameProgram
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem frame_kernel : Cert.quiescent_Kernel := fun m g _ => Cert.FlashDec.run_kernel (F := Bits) m g

theorem frame_kernelIdeal : Cert.quiescent_KernelIdeal := fun m g _ =>
  (θ_run (Cert.KernelIdeal.defs (F := Ideal)) _ _).mono (fun _ h => ⟨fun c => (h.1 c).2, h.2⟩) (Cert.FlashDec.run_main (F := Ideal) m g)

theorem frame_referenceIdeal : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

/-- Both programs end with the reference's array. -/
theorem values : Cert.algebraic_KernelIdeal_ReferenceIdeal_pre_finite_scores_KernelIdeal := fun m g m' g' hpre hsame =>
  ⟨_, (θ_run (Cert.KernelIdeal.defs (F := Ideal)) _ _).mono
      (fun _ h c => ⟨(h.1 c).1.trans (Cert.FlashDec.result_eq m _ _ _ hpre (fun c => (hsame c).1) (fun c => (hsame c).2.1) (fun c => (hsame c).2.2) c),
        (h.1 c).2⟩)
      (Cert.FlashDec.run_main (F := Ideal) m g),
    (θ_run (Cert.ReferenceIdeal.defs (F := Ideal)) _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, Cert.Pre_finite_scores_KernelIdeal.Gen.facts,
    Cert.Pre_finite_scores_ReferenceIdeal.Gen.facts, frame_kernel, frame_kernelIdeal, fun m g _ => frame_kernelIdeal m g trivial,
    frame_referenceIdeal, fun m g _ => frame_referenceIdeal m g trivial, trivial, values⟩

end Cert.Proof

end
